-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.Statement Cert.KernelIdeal.S16x128 Cert.KernelIdeal.S8x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1x3584 : Shape := ⟨3, ![4, 1, 3584]⟩
abbrev S3584x2x18944 : Shape := ⟨3, ![3584, 2, 18944]⟩
abbrev S_ : Shape := ⟨0, ![]⟩

class Facts : Prop where
  bcast_S_S4x1x3584 : S_.BroadcastsInDim S4x1x3584 (![] : Fin 0 → Fin S4x1x3584.rank)
  reducesTo_S4x1x3584_S_d0_1_2 : S4x1x3584.ReducesTo [0, 1, 2] S_
  h_S_ : 0 < S_.numel
  bcast_S_S3584x2x18944 : S_.BroadcastsInDim S3584x2x18944 (![] : Fin 0 → Fin S3584x2x18944.rank)
  reducesTo_S3584x2x18944_S_d0_1_2 : S3584x2x18944.ReducesTo [0, 1, 2] S_

variable [Facts]

def fn {F : FTy → Type} [FloatOps F] (main_arg0 : FVec F S4x1x3584 .bf16) (main_arg1 : FVec F S3584x2x18944 .bf16) : IVec S_ 1 :=
  let main_v0 : FVec F S4x1x3584 .bf16 := Host.absf main_arg0
  let main_cst : FVec F S_ .bf16 := constant S_ .bf16 0x7F7F#16
  let main_v1 : FVec F S4x1x3584 .bf16 := broadcastInDim S4x1x3584 ![] bcast_S_S4x1x3584 main_cst
  let main_v2 : IVec S4x1x3584 1 := cmpf .ole main_v0 main_v1
  let main_c : IVec S_ 1 := constantI S_ 1 1#1
  let main_v3 : IVec S_ 1 := (fun x v => Host.reduce IntOp.andi x v reducesTo_S4x1x3584_S_d0_1_2 h_S_) main_v2 main_c
  let main_v4 : FVec F S3584x2x18944 .bf16 := Host.absf main_arg1
  let main_cst_0 : FVec F S_ .bf16 := constant S_ .bf16 0x7F7F#16
  let main_v5 : FVec F S3584x2x18944 .bf16 := broadcastInDim S3584x2x18944 ![] bcast_S_S3584x2x18944 main_cst_0
  let main_v6 : IVec S3584x2x18944 1 := cmpf .ole main_v4 main_v5
  let main_c_1 : IVec S_ 1 := constantI S_ 1 1#1
  let main_v7 : IVec S_ 1 := (fun x v => Host.reduce IntOp.andi x v reducesTo_S3584x2x18944_S_d0_1_2 h_S_) main_v6 main_c_1
  let main_v8 : IVec S_ 1 := andi main_v3 main_v7
  main_v8
-- ==== Kernel.lean ====
abbrev S4x1x3584 : Shape := ⟨3, ![4, 1, 3584]⟩
abbrev S3584x2x18944 : Shape := ⟨3, ![3584, 2, 18944]⟩
abbrev S4x3584 : Shape := ⟨2, ![4, 3584]⟩
abbrev S4x18944 : Shape := ⟨2, ![4, 18944]⟩
abbrev S4x1x28 : Shape := ⟨3, ![4, 1, 28]⟩
abbrev S2x3584x18944 : Shape := ⟨3, ![2, 3584, 18944]⟩
abbrev S28x2x148 : Shape := ⟨3, ![28, 2, 148]⟩
abbrev S128x2x4736 : Shape := ⟨3, ![128, 2, 4736]⟩
abbrev S4x4736 : Shape := ⟨2, ![4, 4736]⟩
abbrev S2x128x4736 : Shape := ⟨3, ![2, 128, 4736]⟩
abbrev S28x16x128 : Shape := ⟨3, ![28, 16, 128]⟩
abbrev S2x8x4736 : Shape := ⟨3, ![2, 8, 4736]⟩
abbrev S4x128 : Shape := ⟨2, ![4, 128]⟩
abbrev S4 : Shape := ⟨1, ![4]⟩
abbrev S4x1 : Shape := ⟨2, ![4, 1]⟩
abbrev S12x128 : Shape := ⟨2, ![12, 128]⟩
abbrev S16x128 : Shape := ⟨2, ![16, 128]⟩
abbrev S1x16x128 : Shape := ⟨3, ![1, 16, 128]⟩
abbrev S4x28 : Shape := ⟨2, ![4, 28]⟩
abbrev S1x148 : Shape := ⟨2, ![1, 148]⟩
abbrev S1x1x148 : Shape := ⟨3, ![1, 1, 148]⟩
abbrev S32x2x128 : Shape := ⟨3, ![32, 2, 128]⟩
abbrev S16x4x128 : Shape := ⟨3, ![16, 4, 128]⟩
abbrev S16x2x128 : Shape := ⟨3, ![16, 2, 128]⟩
abbrev S32x128 : Shape := ⟨2, ![32, 128]⟩
abbrev S8x128 : Shape := ⟨2, ![8, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S16x1x128 : Shape := ⟨3, ![16, 1, 128]⟩
abbrev S1x32x128 : Shape := ⟨3, ![1, 32, 128]⟩
abbrev S1x128x256 : Shape := ⟨3, ![1, 128, 256]⟩
abbrev S128x256 : Shape := ⟨2, ![128, 256]⟩
abbrev S16x256 : Shape := ⟨2, ![16, 256]⟩
abbrev S8x256 : Shape := ⟨2, ![8, 256]⟩
abbrev S1x8x256 : Shape := ⟨3, ![1, 8, 256]⟩
abbrev S1x128x128 : Shape := ⟨3, ![1, 128, 128]⟩
abbrev S128x128 : Shape := ⟨2, ![128, 128]⟩
abbrev S1x8x128 : Shape := ⟨3, ![1, 8, 128]⟩
abbrev S1x4x4736 : Shape := ⟨3, ![1, 4, 4736]⟩

abbrev nBuf : Space → Nat
  | .hbm => 8
  | .vmem => 12
  | .smem => 0
  | _ => 0

abbrev bufTy : (tb : Table) → Fin (tcTables nBuf tb) → BufTy
  | .hbm, ⟨0, _⟩ => ⟨S4x1x3584, .bf16⟩
  | .hbm, ⟨1, _⟩ => ⟨S3584x2x18944, .bf16⟩
  | .hbm, ⟨2, _⟩ => ⟨S4x3584, .bf16⟩
  | .hbm, ⟨3, _⟩ => ⟨S4x18944, .bf16⟩
  | .hbm, ⟨4, _⟩ => ⟨S4x3584, .fp8e4m3⟩
  | .hbm, ⟨5, _⟩ => ⟨S4x1x28, .f32⟩
  | .hbm, ⟨6, _⟩ => ⟨S2x3584x18944, .fp8e4m3⟩
  | .hbm, ⟨7, _⟩ => ⟨S28x2x148, .f32⟩
  | .local _ .vmem, ⟨0, _⟩ => ⟨S4x3584, .bf16⟩
  | .local _ .vmem, ⟨1, _⟩ => ⟨S128x2x4736, .bf16⟩
  | .local _ .vmem, ⟨2, _⟩ => ⟨S128x2x4736, .bf16⟩
  | .local _ .vmem, ⟨3, _⟩ => ⟨S4x4736, .bf16⟩
  | .local _ .vmem, ⟨4, _⟩ => ⟨S4x4736, .bf16⟩
  | .local _ .vmem, ⟨5, _⟩ => ⟨S4x3584, .fp8e4m3⟩
  | .local _ .vmem, ⟨6, _⟩ => ⟨S4x1x28, .f32⟩
  | .local _ .vmem, ⟨7, _⟩ => ⟨S2x128x4736, .fp8e4m3⟩
  | .local _ .vmem, ⟨8, _⟩ => ⟨S2x128x4736, .fp8e4m3⟩
  | .local _ .vmem, ⟨9, _⟩ => ⟨S28x2x148, .f32⟩
  | .local _ .vmem, ⟨10, _⟩ => ⟨S28x16x128, .bf16⟩
  | .local _ .vmem, ⟨11, _⟩ => ⟨S2x8x4736, .f32⟩
  | _, _ => ⟨S4x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [BitOps F]

abbrev grid0 : Pipeline.Grid := ⟨2, ![4, 28], ![false, false]⟩

def k0_off1 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off2 (i : grid0.Coords) : Fin 3 → Nat :=
  let arg1 : BitVec 32 := BitVec.ofNat 32 (i 1).val
  let v12 : Index := Scalar.indexCast arg1
  let c1 : Index := 1#32
  let c0_5 : Index := 0#32
  ![v12.toNat, 1, 0]
def k0_off3 (i : grid0.Coords) : Fin 3 → Nat :=
  let arg1 : BitVec 32 := BitVec.ofNat 32 (i 1).val
  let v12825 : Index := Scalar.indexCast arg1
  let c0_4694 : Index := 0#32
  let c0_4695 : Index := 0#32
  ![v12825.toNat, 0, 0]
def k0_cond3 (i : grid0.Coords) : BitVec 1 :=
  let arg1 : BitVec 32 := BitVec.ofNat 32 (i 1).val
  let c27_i32_5076 : BitVec 32 := 27#32
  let v13282 : BitVec 1 := Scalar.cmpi .eq arg1 c27_i32_5076
  let v13283 : BitVec 32 := Scalar.extui v13282
  let c0_i32_5077 : BitVec 32 := 0#32
  let v13284 : BitVec 1 := Scalar.cmpi .ne v13283 c0_i32_5077
  v13284

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2x4736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4736 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x128x4736 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S28x2x148 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KernelIdeal.lean ====
variable {F : FTy → Type} [FloatOps F]
-- ==== ReferenceIdeal.lean ====
abbrev S4x1x3584 : Shape := ⟨3, ![4, 1, 3584]⟩
abbrev S3584x2x18944 : Shape := ⟨3, ![3584, 2, 18944]⟩
abbrev S4x18944 : Shape := ⟨2, ![4, 18944]⟩
abbrev S4x3584 : Shape := ⟨2, ![4, 3584]⟩
abbrev S4x1x28 : Shape := ⟨3, ![4, 1, 28]⟩
abbrev S2x3584x18944 : Shape := ⟨3, ![2, 3584, 18944]⟩
abbrev S28x2x148 : Shape := ⟨3, ![28, 2, 148]⟩
abbrev S4x1x28x128 : Shape := ⟨4, ![4, 1, 28, 128]⟩
abbrev S4x1x28x254 : Shape := ⟨4, ![4, 1, 28, 254]⟩
abbrev S4x1x28x1 : Shape := ⟨4, ![4, 1, 28, 1]⟩
abbrev S28x128x2x148x128 : Shape := ⟨5, ![28, 128, 2, 148, 128]⟩
abbrev S28x2x148x254 : Shape := ⟨4, ![28, 2, 148, 254]⟩
abbrev S28x2x148x1 : Shape := ⟨4, ![28, 2, 148, 1]⟩
abbrev S28x1x2x148x1 : Shape := ⟨5, ![28, 1, 2, 148, 1]⟩
abbrev S3584x1x18944 : Shape := ⟨3, ![3584, 1, 18944]⟩
abbrev S3584x18944 : Shape := ⟨2, ![3584, 18944]⟩
abbrev S1x3584x18944 : Shape := ⟨3, ![1, 3584, 18944]⟩

abbrev nBuf : Space → Nat
  | .hbm => 7
  | .vmem => 7
  | .smem => 0
  | _ => 0

abbrev bufTy : (tb : Table) → Fin (tcTables nBuf tb) → BufTy
  | .hbm, ⟨0, _⟩ => ⟨S4x1x3584, .bf16⟩
  | .hbm, ⟨1, _⟩ => ⟨S3584x2x18944, .bf16⟩
  | .hbm, ⟨2, _⟩ => ⟨S4x18944, .bf16⟩
  | .hbm, ⟨3, _⟩ => ⟨S4x3584, .fp8e4m3⟩
  | .hbm, ⟨4, _⟩ => ⟨S4x1x28, .f32⟩
  | .hbm, ⟨5, _⟩ => ⟨S2x3584x18944, .fp8e4m3⟩
  | .hbm, ⟨6, _⟩ => ⟨S28x2x148, .f32⟩
  | .local _ .vmem, ⟨0, _⟩ => ⟨S4x1x3584, .bf16⟩
  | .local _ .vmem, ⟨1, _⟩ => ⟨S3584x2x18944, .bf16⟩
  | .local _ .vmem, ⟨2, _⟩ => ⟨S4x18944, .bf16⟩
  | .local _ .vmem, ⟨3, _⟩ => ⟨S4x3584, .fp8e4m3⟩
  | .local _ .vmem, ⟨4, _⟩ => ⟨S4x1x28, .f32⟩
  | .local _ .vmem, ⟨5, _⟩ => ⟨S2x3584x18944, .fp8e4m3⟩
  | .local _ .vmem, ⟨6, _⟩ => ⟨S28x2x148, .f32⟩
  | _, _ => ⟨S4x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x2x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3584x18944 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28x2x148 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pow2.lean ====
module

public import Idealize.ShloMosaic.PureOps.Ideal
public import Mathlib.Analysis.SpecialFunctions.Pow.Real

@[expose] public section

/-! # The scale of a block

The reference takes for a block with `v = amax / 448` the power of two just above `v`: the greatest of
`2 * 2^k` over the exponents `-126 ≤ k ≤ 127` with `2^k ≤ v`, and `1` where there is none. The kernel finds
the exponent field of the float32 word of `v` bit by bit and builds the words of the scale and of its inverse
from it. Here both are defined on one extended real and shown equal. -/

namespace Cert.Pow2

open Idealize.ShloMosaic

noncomputable section

/-- The float32 word with exponent field `w` and no other bit set. -/
def word (w : BitVec 8) : BitVec 32 := w.setWidth 32 <<< 23

/-- One step of the kernel's search: keep the bit `b` if the word with it is at most `v`. -/
def step (v : EReal) (u b : BitVec 32) : BitVec 32 :=
  if Ideal.cmp .oge v (Ideal.ofBits .f32 (u ||| b)) = 1#1 then u ||| b else u

/-- The exponent word that the kernel finds: the eight steps, from bit 30 down to bit 23. -/
def ladder (v : EReal) : BitVec 32 :=
  step v (step v (step v (step v (step v (step v (step v (step v 0#32 1073741824#32) 536870912#32)
    268435456#32) 134217728#32) 67108864#32) 33554432#32) 16777216#32) 8388608#32

/-- The test for the two exponents without a scale of their own. -/
def special (u : BitVec 32) : Prop := u = 0#32 ∨ u = 2139095040#32

instance (u : BitVec 32) : Decidable (special u) := inferInstanceAs (Decidable (_ ∨ _))

/-- The word of the kernel's scale. -/
def scaleWord (u : BitVec 32) : BitVec 32 := if special u then 1065353216#32 else u + 8388608#32

/-- The word of the kernel's inverse scale. -/
def invWord (u : BitVec 32) : BitVec 32 := if special u then 1065353216#32 else 2122317824#32 - u

/-- The value of the exponent field `w`. -/
def val (w : BitVec 8) : EReal :=
  if w.toNat = 255 then ⊤ else if w.toNat = 0 then 0 else (((2 : ℝ) ^ ((w.toNat : ℤ) - 127) : ℝ) : EReal)

theorem ieee_word (w : BitVec 8) : Ideal.ofBits .f32 (word w) = val w := by
  have h1 : ∀ w : BitVec 8, ((word w).extractLsb' (8 + 23) 1 == 1#1) = false := by decide
  have h2 : ∀ w : BitVec 8, ((word w).extractLsb' 23 8).toNat = w.toNat := by decide
  have h3 : ∀ w : BitVec 8, ((word w).extractLsb' 0 23).toNat = 0 := by decide
  simp only [Ideal.ofBits, Ideal.ieee, h1, h2, h3, val]
  norm_num
  split_ifs with a b
  · rfl
  · simp
  · have h : ((8388608 : ℝ) : EReal) = (((2 : ℝ) ^ (23 : ℤ) : ℝ) : EReal) := by norm_num
    refine (congrArg (· * _) h).trans ?_
    rw [← EReal.coe_mul, ← zpow_add₀ (by norm_num)]
    congr 2; omega

theorem val_mono {w w' : BitVec 8} (h : w ≤ w') : val w ≤ val w' := by
  have h : w.toNat ≤ w'.toNat := h
  unfold val
  split_ifs <;> first | exact le_top | exact le_refl _ | omega | skip
  · exact EReal.coe_nonneg.2 (zpow_pos (by norm_num) _).le
  · exact EReal.coe_le_coe_iff.2 (zpow_le_zpow_right₀ (by norm_num) (by omega))

theorem val_one : val 127 = 1 := by
  rw [val, show (127 : BitVec 8).toNat = 127 from rfl]; norm_num

/-- The greatest exponent field whose value is at most `v`. -/
theorem exists_field {v : EReal} (hv : 0 ≤ v) : ∃ E : BitVec 8, ∀ w : BitVec 8, val w ≤ v ↔ w ≤ E := by
  classical
  have hne : (Finset.univ.filter fun n : Fin 256 => val (BitVec.ofFin n) ≤ v).Nonempty :=
    ⟨0, by simpa [val] using hv⟩
  refine ⟨BitVec.ofFin (Finset.max' _ hne), fun w => ⟨fun h => ?_, fun h => ?_⟩⟩
  · have := Finset.le_max' _ w.toFin (by simpa using h : w.toFin ∈ Finset.univ.filter fun n : Fin 256 => val (BitVec.ofFin n) ≤ v)
    exact this
  · have := Finset.max'_mem _ hne
    rw [Finset.mem_filter] at this
    exact (val_mono h).trans this.2

/-- The same search on the exponent fields. -/
def step8 (E w b : BitVec 8) : BitVec 8 := if w ||| b ≤ E then w ||| b else w

theorem step_word {v : EReal} {E : BitVec 8} (hE : ∀ w : BitVec 8, val w ≤ v ↔ w ≤ E) (w b : BitVec 8) :
    step v (word w) (word b) = word (step8 E w b) := by
  have hor : word w ||| word b = word (w ||| b) := by
    simp only [word, BitVec.setWidth_or, BitVec.shiftLeft_or_distrib]
  rw [step, step8, hor, ieee_word]
  by_cases h : w ||| b ≤ E
  · rw [if_pos h, if_pos]; simp [Ideal.cmp, (hE _).2 h]
  · rw [if_neg h, if_neg]; simp [Ideal.cmp, mt (hE _).1 h]

theorem ladder_eq {v : EReal} {E : BitVec 8} (hE : ∀ w : BitVec 8, val w ≤ v ↔ w ≤ E) : ladder v = word E := by
  have h : ∀ E : BitVec 8, step8 E (step8 E (step8 E (step8 E (step8 E (step8 E (step8 E (step8 E 0 128) 64) 32) 16) 8) 4) 2) 1 = E := by
    decide
  unfold ladder
  rw [show (0#32 : BitVec 32) = word 0 by decide, show (1073741824#32 : BitVec 32) = word 128 by decide,
    show (536870912#32 : BitVec 32) = word 64 by decide, show (268435456#32 : BitVec 32) = word 32 by decide,
    show (134217728#32 : BitVec 32) = word 16 by decide, show (67108864#32 : BitVec 32) = word 8 by decide,
    show (33554432#32 : BitVec 32) = word 4 by decide, show (16777216#32 : BitVec 32) = word 2 by decide,
    show (8388608#32 : BitVec 32) = word 1 by decide]
  simp only [step_word hE, h]

/-- The greatest of `2 * 2^k` over the exponents `k` with `2^k ≤ v`; zero where there is none. -/
def above (v : EReal) : EReal :=
  Finset.univ.sup fun k : Fin 254 =>
    if Ideal.exp2 ((((k : ℕ) : ℤ) - 126 : ℤ) : ℝ) ≤ v then 2 * Ideal.exp2 ((((k : ℕ) : ℤ) - 126 : ℤ) : ℝ) else 0

/-- The reference's scale of a block with `v = amax / 448`. -/
def scale (v : EReal) : EReal := if above v = 0 then 1 else above v

theorem exp2_int (z : ℤ) : Ideal.exp2 ((z : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

/-- What the reference's scale is in terms of the exponent field of `v`. -/
theorem scale_eq {v : EReal} {E : BitVec 8} (hE : ∀ w : BitVec 8, val w ≤ v ↔ w ≤ E) (hE' : E.toNat ≤ 253) :
    scale v = if E.toNat = 0 then 1 else (((2 : ℝ) ^ ((E.toNat : ℤ) - 126) : ℝ) : EReal) := by
  have hk : ∀ k : Fin 254, ((((2 : ℝ) ^ (((k : ℕ) : ℤ) - 126) : ℝ) : EReal) ≤ v ↔ (k : ℕ) + 1 ≤ E.toNat) := by
    intro k
    have := hE (BitVec.ofNat 8 (k + 1))
    have hn : (BitVec.ofNat 8 (k + 1)).toNat = k + 1 := by
      rw [BitVec.toNat_ofNat]; exact Nat.mod_eq_of_lt (by omega)
    rw [BitVec.le_def, hn] at this
    rw [← this, val, hn, if_neg (by omega), if_neg (by omega)]
    rw [show (((k : ℕ) + 1 : ℕ) : ℤ) - 127 = ((k : ℕ) : ℤ) - 126 by push_cast; ring]
  have two : ∀ z : ℤ, (2 : EReal) * (((2 : ℝ) ^ z : ℝ) : EReal) = (((2 : ℝ) ^ (z + 1) : ℝ) : EReal) := by
    intro z
    rw [zpow_add_one₀ (by norm_num), mul_comm ((2 : ℝ) ^ z), EReal.coe_mul]; rfl
  have hab : above v = Finset.univ.sup fun k : Fin 254 =>
      if (k : ℕ) + 1 ≤ E.toNat then (((2 : ℝ) ^ (((k : ℕ) : ℤ) - 125) : ℝ) : EReal) else 0 := by
    unfold above
    congr 1; funext k
    rw [exp2_int, two]
    simp only [hk k]
    rw [show ((k : ℕ) : ℤ) - 126 + 1 = ((k : ℕ) : ℤ) - 125 by ring]
  by_cases h0 : E.toNat = 0
  · have : above v = 0 := by
      rw [hab]
      simp only [h0]
      apply le_antisymm
      · exact Finset.sup_le fun k _ => by rw [if_neg (by omega)]
      · refine le_trans ?_ (Finset.le_sup (Finset.mem_univ (0 : Fin 254))); rw [if_neg (by omega)]
    rw [scale, if_pos this, if_pos h0]
  · have : above v = (((2 : ℝ) ^ ((E.toNat : ℤ) - 126) : ℝ) : EReal) := by
      rw [hab]
      apply le_antisymm
      · refine Finset.sup_le fun k _ => ?_
        split_ifs with hle
        · exact EReal.coe_le_coe_iff.2 (zpow_le_zpow_right₀ (by norm_num) (by omega))
        · exact EReal.coe_nonneg.2 (zpow_pos (by norm_num) _).le
      · refine le_trans ?_ (Finset.le_sup (Finset.mem_univ (⟨E.toNat - 1, by omega⟩ : Fin 254)))
        dsimp only
        rw [if_pos (by omega)]
        exact EReal.coe_le_coe_iff.2 (zpow_le_zpow_right₀ (by norm_num) (by omega))
    have hpos : above v ≠ 0 := by
      rw [this]
      exact_mod_cast (zpow_pos (by norm_num : (0 : ℝ) < 2) _).ne'
    rw [scale, if_neg hpos, if_neg h0, this]

/-- The reference's scale is a positive real number. -/
theorem scale_pos {v : EReal} (hv : 0 ≤ v) (hv' : v < val 247) : ∃ s : ℝ, 0 < s ∧ scale v = (s : EReal) := by
  obtain ⟨E, hE⟩ := exists_field hv
  have hlt : E.toNat < 247 := by
    by_contra hc
    exact absurd ((hE 247).2 (by rw [BitVec.le_def]; exact not_lt.1 hc)) (not_le.2 hv')
  rw [scale_eq hE (by omega)]
  split_ifs
  · exact ⟨1, one_pos, rfl⟩
  · exact ⟨_, zpow_pos (by norm_num) _, rfl⟩

/-- The kernel's scale is the reference's. -/
theorem kernel_scale {v : EReal} (hv : 0 ≤ v) (hv' : v < val 247) :
    Ideal.ofBits .f32 (scaleWord (ladder v)) = scale v := by
  obtain ⟨E, hE⟩ := exists_field hv
  have hlt : E.toNat < 247 := by
    by_contra hc
    exact absurd ((hE 247).2 (by rw [BitVec.le_def]; exact not_lt.1 hc)) (not_le.2 hv')
  have hw : ∀ E : BitVec 8, E.toNat < 247 → scaleWord (word E) = if E.toNat = 0 then word 127 else word (E + 1) := by
    decide
  have hn : ∀ E : BitVec 8, E.toNat < 247 → (E + 1).toNat = E.toNat + 1 := by decide
  rw [ladder_eq hE, hw E hlt, scale_eq hE (by omega)]
  split_ifs with h0
  · rw [ieee_word, val_one]
  · rw [ieee_word, val, hn E hlt, if_neg (by omega), if_neg (by omega)]
    congr 2; push_cast; ring

/-- The kernel's inverse scale is the inverse of the reference's scale. -/
theorem kernel_inv {v : EReal} (hv : 0 ≤ v) (hv' : v < val 247) :
    Ideal.ofBits .f32 (invWord (ladder v)) = Ideal.div 1 (scale v) := by
  obtain ⟨E, hE⟩ := exists_field hv
  have hlt : E.toNat < 247 := by
    by_contra hc
    exact absurd ((hE 247).2 (by rw [BitVec.le_def]; exact not_lt.1 hc)) (not_le.2 hv')
  have hw : ∀ E : BitVec 8, E.toNat < 247 → invWord (word E) = if E.toNat = 0 then word 127 else word (253 - E) := by
    decide
  have hn : ∀ E : BitVec 8, E.toNat < 247 → (253 - E).toNat = 253 - E.toNat := by decide
  rw [ladder_eq hE, hw E hlt, scale_eq hE (by omega)]
  have hdiv : ∀ s : ℝ, 0 < s → Ideal.div 1 (s : EReal) = ((s⁻¹ : ℝ) : EReal) := by
    intro s hs
    rw [Ideal.div, if_neg (by exact_mod_cast hs.ne'), one_mul, EReal.coe_inv]
  split_ifs with h0
  · rw [ieee_word, val_one, ← EReal.coe_one]; exact ((hdiv 1 one_pos).trans (by norm_num)).symm
  · rw [ieee_word, val, hn E hlt, if_neg (by omega), if_neg (by omega), hdiv _ (zpow_pos (by norm_num) _)]
    congr 1
    rw [← zpow_neg]; congr 1; omega

end

end Cert.Pow2
-- ==== Proof.HalfWord.lean ====
module

public import proofs.«01_k».proof.Proof.Pow2

@[expose] public section

set_option maxRecDepth 16384

/-! # Two inverse scales in one word

The kernel packs the upper halves of two float32 words into one word and reads the halves as bfloat16 numbers. For
words with an exponent field alone this loses nothing. -/

namespace Cert.Pow2

open Idealize.ShloMosaic

noncomputable section

/-- The float32 word with the nine upper bits `k`. -/
def wide (k : BitVec 9) : BitVec 32 := k.setWidth 32 <<< 23

/-- The bfloat16 word with the nine upper bits `k`. -/
def half (k : BitVec 9) : BitVec 16 := k.setWidth 16 <<< 7

/-- The two words spell the same number. -/
theorem ofBits_half (k : BitVec 9) : Ideal.ofBits .bf16 (half k) = Ideal.ofBits .f32 (wide k) := by
  have h1 : ∀ k : BitVec 9, (half k).extractLsb' (8 + 7) 1 = (wide k).extractLsb' (8 + 23) 1 := by decide
  have h2 : ∀ k : BitVec 9, (half k).extractLsb' 7 8 = (wide k).extractLsb' 23 8 := by decide
  have h3 : ∀ k : BitVec 9, ((half k).extractLsb' 0 7).toNat = 0 := by decide
  have h4 : ∀ k : BitVec 9, ((wide k).extractLsb' 0 23).toNat = 0 := by decide
  show Ideal.ieee 8 7 (half k) = Ideal.ieee 8 23 (wide k)
  unfold Ideal.ieee
  dsimp only
  rw [h1, h2, h3, h4]
  generalize ((wide k).extractLsb' 23 8).toNat = ex
  generalize (if ((wide k).extractLsb' (8 + 23) 1 == 1#1) = true then (-1 : ℝ) else 1) = sg
  refine if_congr Iff.rfl rfl (if_congr Iff.rfl ?_ ?_)
  · rw [Nat.cast_zero, mul_zero, zero_mul, zero_mul]
  · refine congrArg (fun r : ℝ => (r : EReal)) ?_
    rw [mul_assoc, mul_assoc]
    refine congrArg (sg * ·) ?_
    rw [Nat.add_zero, Nat.add_zero, Nat.cast_pow, Nat.cast_pow, Nat.cast_ofNat, ← zpow_natCast, ← zpow_natCast,
      ← zpow_add₀ two_ne_zero, ← zpow_add₀ two_ne_zero]
    refine congrArg ((2 : ℝ) ^ ·) ?_
    push_cast
    omega

theorem wide_or (a b : BitVec 9) : wide a ||| wide b = wide (a ||| b) := by
  simp only [wide, BitVec.setWidth_or, BitVec.shiftLeft_or_distrib]

theorem step_wide (v : EReal) (k c : BitVec 9) : ∃ k', step v (wide k) (wide c) = wide k' := by
  unfold step
  rw [wide_or]
  split_ifs
  · exact ⟨_, rfl⟩
  · exact ⟨_, rfl⟩

theorem ladder_wide (v : EReal) : ∃ k, ladder v = wide k := by
  unfold ladder
  rw [show (0#32 : BitVec 32) = wide 0 by decide, show (1073741824#32 : BitVec 32) = wide 128 by decide,
    show (536870912#32 : BitVec 32) = wide 64 by decide, show (268435456#32 : BitVec 32) = wide 32 by decide,
    show (134217728#32 : BitVec 32) = wide 16 by decide, show (67108864#32 : BitVec 32) = wide 8 by decide,
    show (33554432#32 : BitVec 32) = wide 4 by decide, show (16777216#32 : BitVec 32) = wide 2 by decide,
    show (8388608#32 : BitVec 32) = wide 1 by decide]
  obtain ⟨k1, h1⟩ := step_wide v 0 128; rw [h1]
  obtain ⟨k2, h2⟩ := step_wide v k1 64; rw [h2]
  obtain ⟨k3, h3⟩ := step_wide v k2 32; rw [h3]
  obtain ⟨k4, h4⟩ := step_wide v k3 16; rw [h4]
  obtain ⟨k5, h5⟩ := step_wide v k4 8; rw [h5]
  obtain ⟨k6, h6⟩ := step_wide v k5 4; rw [h6]
  obtain ⟨k7, h7⟩ := step_wide v k6 2; rw [h7]
  exact step_wide v k7 1

theorem inv_wide (v : EReal) : ∃ k, invWord (ladder v) = wide k := by
  obtain ⟨k, hk⟩ := ladder_wide v
  rw [hk, invWord]
  split_ifs
  · exact ⟨127, by decide⟩
  · have h : ∀ k : BitVec 9, 2122317824#32 - wide k = wide (253 - k) := by decide
    exact ⟨_, h k⟩

/-- The lower half of the packed word is the first inverse scale. -/
theorem pack_lo (v v' : EReal) :
    Ideal.ofBits .bf16 ((invWord (ladder v) >>> 16 ||| invWord (ladder v')).extractLsb' 0 16) = Ideal.ofBits .f32 (invWord (ladder v)) := by
  obtain ⟨a, ha⟩ := inv_wide v
  obtain ⟨b, hb⟩ := inv_wide v'
  have h1 : ∀ k : BitVec 9, (wide k >>> 16).extractLsb' 0 16 = half k := by decide
  have h2 : ∀ k : BitVec 9, (wide k).extractLsb' 0 16 = 0#16 := by decide
  rw [ha, hb, BitVec.extractLsb'_or, h1, h2, BitVec.or_zero]
  exact ofBits_half a

/-- The upper half of the packed word is the second inverse scale. -/
theorem pack_hi (v v' : EReal) :
    Ideal.ofBits .bf16 ((invWord (ladder v) >>> 16 ||| invWord (ladder v')).extractLsb' 16 16) = Ideal.ofBits .f32 (invWord (ladder v')) := by
  obtain ⟨a, ha⟩ := inv_wide v
  obtain ⟨b, hb⟩ := inv_wide v'
  have h1 : ∀ k : BitVec 9, (wide k >>> 16).extractLsb' 16 16 = 0#16 := by decide
  have h2 : ∀ k : BitVec 9, (wide k).extractLsb' 16 16 = half k := by decide
  rw [ha, hb, BitVec.extractLsb'_or, h1, h2, BitVec.zero_or]
  exact ofBits_half b

/-- The scale that the kernel takes for a block with greatest magnitude over 448 `v`. -/
def kscale (v : EReal) : EReal := Ideal.ofBits .f32 (scaleWord (ladder v))

/-- The inverse scale that the kernel takes. -/
def kinv (v : EReal) : EReal := Ideal.ofBits .f32 (invWord (ladder v))

end

end Cert.Pow2
-- ==== Proof.Spec.lean ====
module

public import proofs.«01_k».proof.Proof.Pow2

@[expose] public section

/-! # The quantised product, on indices

The scales, the codes and the product of the two quantised operands as plain functions of a row `r`, a
contraction block `k`, a place `d` in it, a half `h` (gate or up), a column block `n` and a lane `l`. -/

namespace Cert.Spec

open Idealize.ShloMosaic

noncomputable section

/-- The float32 number nearest `1 / 448`. -/
def c448 : EReal := Ideal.ofBits .f32 0x3B124925#32

/-- The scale of a block with greatest magnitude `a`. -/
def blockScale (a : EReal) : EReal := Pow2.scale (a * c448)

/-- The greatest magnitude of a family. -/
def amax {ι : Type} [Fintype ι] (f : ι → EReal) : EReal := Finset.univ.sup fun i => max (f i) (-(f i))

/-- A number brought to the range of the codes. -/
def clip (z : EReal) : EReal := min (Ideal.ofBits .f32 0x43E00000#32) (max (Ideal.ofBits .f32 0xC3E00000#32) z)

/-- The code of `z` in a block of scale `s`. -/
def code (z s : EReal) : EReal := clip (z * Ideal.div 1 s)

variable (x : Fin 4 → Fin 28 → Fin 128 → EReal) (w : Fin 28 → Fin 128 → Fin 2 → Fin 148 → Fin 128 → EReal)

/-- The scale of a block of `x`. -/
def xs (r : Fin 4) (k : Fin 28) : EReal := blockScale (amax (x r k))

/-- The scale of a block of the weights. -/
def ws (k : Fin 28) (h : Fin 2) (n : Fin 148) : EReal :=
  blockScale (amax fun p : Fin 128 × Fin 128 => w k p.1 h n p.2)

/-- The codes of `x`. -/
def xc (r : Fin 4) (k : Fin 28) (d : Fin 128) : EReal := code (x r k d) (xs x r k)

/-- The codes of the weights. -/
def wc (k : Fin 28) (d : Fin 128) (h : Fin 2) (n : Fin 148) (l : Fin 128) : EReal := code (w k d h n l) (ws w k h n)

/-- The product of the dequantised operands. -/
def dot (r : Fin 4) (h : Fin 2) (n : Fin 148) (l : Fin 128) : EReal :=
  ∑ k : Fin 28, ∑ d : Fin 128, xc x r k d * xs x r k * (wc w k d h n l * ws w k h n)

/-- The gated result. -/
def y (r : Fin 4) (n : Fin 148) (l : Fin 128) : EReal :=
  dot x w r 0 n l * Ideal.logistic (dot x w r 0 n l) * dot x w r 1 n l

theorem ofBits_neg_inf : Ideal.ofBits .f32 0xFF800000#32 = ⊥ := by
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  simp [Ideal.ofBits, Ideal.ieee, h1, h2, h3]

theorem ofBits_two : Ideal.ofBits .f32 0x40000000#32 = 2 := by
  have := Pow2.ieee_word 128
  rw [show Pow2.word 128 = 0x40000000#32 by decide] at this
  rw [this, Pow2.val, show (128 : BitVec 8).toNat = 128 from rfl]
  norm_num
  rfl

theorem fold_max {ι : Type} [Fintype ι] (f : ι → EReal) :
    Finset.fold max (Ideal.ofBits .f32 0xFF800000#32) f Finset.univ = Finset.univ.sup f := by
  rw [ofBits_neg_inf]; rfl

end

end Cert.Spec
-- ==== Proof.Cases.lean ====
/- Which of its three branches the kernel's body takes at each point of the grid, where its outputs are idle,
   and the buffers the pipeline hands the body. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 112 = 0 :=
  (fun t => by
    have ht : t.val < 112 := Nat.lt_of_lt_of_eq t.isLt N_0
    have e0 : (grid0.coords t 0).val = t.val / 28 % 4 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 112 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 28) — by arithmetic of the point. -/
theorem hcond0_1 : ∀ t : Fin cfg0.N, cond0_1 (grid0.coords t) ↔ t.val % 28 = 0 :=
  (fun t => by
    have ht : t.val < 112 := Nat.lt_of_lt_of_eq t.isLt N_0
    have e0 : (grid0.coords t 0).val = t.val / 28 % 4 := Pipeline.Grid.coords_val t 0 (by decide) rfl
    have e1 : (grid0.coords t 1).val = t.val / 1 % 28 := Pipeline.Grid.coords_val t 1 (by decide) rfl
    simp only [cond0_1, e0, e1]
    word_cmp
   : ∀ t : Fin grid0.N, cond0_1 (grid0.coords t) ↔ t.val % 28 = 0)

/-- The condition of the body's `scf.if` 2 (`k0_h3`), from the grid coordinates (the skeleton's scalar
    chain substituted). -/
abbrev cond0_2 (i : grid0.Coords) : Prop := k0_cond3 i = 1#1
/-- It holds at the points ≡ 27 (mod 28) — by arithmetic of the point. -/
theorem hcond0_2 : ∀ t : Fin cfg0.N, cond0_2 (grid0.coords t) ↔ t.val % 28 = 27 :=
  (fun t => by
    have ht : t.val < 112 := Nat.lt_of_lt_of_eq t.isLt N_0
    have e0 : (grid0.coords t 0).val = t.val / 28 % 4 := Pipeline.Grid.coords_val t 0 (by decide) rfl
    have e1 : (grid0.coords t 1).val = t.val / 1 % 28 := Pipeline.Grid.coords_val t 1 (by decide) rfl
    simp only [cond0_2, k0_cond3, e0, e1]
    word_cmp
   : ∀ t : Fin grid0.N, cond0_2 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2x4736 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4736 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1x28 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128x4736 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x2x148 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S28x16x128 .bf16 := Memref.whole cc0_scratch0
abbrev scM0_1 : Memref sig .tc .vmem S2x8x4736 .f32 := Memref.whole cc0_scratch1
/-- The scratch `arg9` the kernel carries between points, as a view: what it holds is stated through it. -/
abbrev VS0_0 : View sig .tc .vmem S28x16x128 .bf16 := scM0_0.view
/-- The scratch `arg10` the kernel carries between points, as a view: what it holds is stated through it. -/
abbrev VS0_1 : View sig .tc .vmem S2x8x4736 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Tile.lean ====
/- What one 128-wide column tile of a weight block becomes, written once for every tile: its two scales, its codes,
   its entries of the scale array and its part of the accumulated product. -/
module

public import proofs.«01_k».proof.Proof.Cases

@[expose] public section

set_option maxRecDepth 16384

noncomputable section

namespace Cert.KernelIdeal.Hand

open Idealize.ShloMosaic Idealize.ShloMosaic.TcCoe
open Cert.KernelIdeal.Gen

variable {F : FTy → Type} [FloatOps F]

/-! ## The scale of an array of maxima -/

/-- One rung of the exponent ladder: keep bit `b` where the value reaches the power of two that it spells. -/
def rung {s : Shape} (v : FVec F s .f32) (u : IVec s 32) (b : BitVec 32) : IVec s 32 :=
  select (cmpf .oge v (bitcastToFloat .f32 (ori u (broadcast s b)))) (ori u (broadcast s b)) u

/-- The exponent field of each entry of `v`. -/
def ladderV {s : Shape} (v : FVec F s .f32) : IVec s 32 :=
  rung v (rung v (rung v (rung v (rung v (rung v (rung v (rung v (broadcast s 0#32) 1073741824#32) 536870912#32)
    268435456#32) 134217728#32) 67108864#32) 33554432#32) 16777216#32) 8388608#32

/-- Where the exponent field is the smallest or the largest. -/
def specialV {s : Shape} (u : IVec s 32) : IVec s 1 :=
  ori (cmpi .eq u (broadcast s 0#32)) (cmpi .eq u (broadcast s 2139095040#32))

/-- The scale, from the exponent field. -/
def scaleV {s : Shape} (u : IVec s 32) : FVec F s .f32 :=
  bitcastToFloat .f32 (select (specialV u) (broadcast s 1065353216#32) (addi u (broadcast s 8388608#32)))

/-- The word of the inverse scale. -/
def invV {s : Shape} (u : IVec s 32) : IVec s 32 :=
  select (specialV u) (broadcast s 1065353216#32) (subi (broadcast s 2122317824#32) u)

/-! ## One tile of the weights -/

/-- The rows `4r`, `4r+1` (as (row, half) pairs) of 32 rows of a tile. -/
def rowsE (l : Vec F S32x2x128 .bf16) : FVec F S32x128 .bf16 :=
  shapeCast S32x128 (extractStridedSlice S16x2x128 ![0, 0, 0] (shapeCast S16x4x128 l shapeCasts_S32x2x128_S16x4x128)
    slices_S16x4x128_o0_0_0_S16x2x128) shapeCasts_S16x2x128_S32x128

/-- The rows `4r+2`, `4r+3` (as (row, half) pairs) of 32 rows of a tile. -/
def rowsO (l : Vec F S32x2x128 .bf16) : FVec F S32x128 .bf16 :=
  shapeCast S32x128 (extractStridedSlice S16x2x128 ![0, 2, 0] (shapeCast S16x4x128 l shapeCasts_S32x2x128_S16x4x128)
    slices_S16x4x128_o0_2_0_S16x2x128) shapeCasts_S16x2x128_S32x128

/-- The running maximum of the magnitudes over a tile's rows, gate and up alternating. -/
def maxRows (l : Fin 4 → Vec F S32x2x128 .bf16) : FVec F S32x128 .bf16 :=
  maximumf (maximumf (maximumf (maximumf (maximumf (maximumf (maximumf
    (absf (rowsE (l 0))) (absf (rowsO (l 0)))) (absf (rowsE (l 1)))) (absf (rowsO (l 1))))
    (absf (rowsE (l 2)))) (absf (rowsO (l 2)))) (absf (rowsE (l 3)))) (absf (rowsO (l 3)))

/-- The maximum over the two halves of the rows. -/
def maxHalf (m : FVec F S32x128 .bf16) : FVec F S16x128 .bf16 :=
  maximumf (extractStridedSlice S16x128 ![0, 0] m slices_S32x128_o0_0_S16x128)
    (extractStridedSlice S16x128 ![16, 0] m slices_S32x128_o16_0_S16x128)

/-- The maxima of gate (`p = 0`) or up (`p = 1`). -/
def maxOf (p : Fin 2) (l : Fin 4 → Vec F S32x2x128 .bf16) : FVec F S8x128 .f32 :=
  extf .f32 (rowsOfParity p S8x128 (maxHalf (maxRows l)) bitcasts_S16x128_w16_S8x128_w32) bitsLt_bf16_f32

/-- The maximum over everything, spread out, times 1/448. -/
def scaledMax (v : FVec F S8x128 .f32) : FVec F S8x128 .f32 :=
  mulf (broadcastTo S8x128 (shapeCast S1x1 (shapeCast S1x1 (multiReduction .maximumf [1] S1
    (shapeCast S1x128 (multiReduction .maximumf [0] S128 v 0xFF800000#32 reduces_S8x128_S128 (.inl rfl) rfl)
      shapeCasts_S128_S1x128) 0xFF800000#32 reduces_S1x128_S1 (.inl rfl) rfl) shapeCasts_S1_S1x1)
    shapeCasts_S1x1_S1x1) broadcasts_S1x1_S8x128) (broadcast S8x128 (Scalar.ofBits .f32 0x3B124925#32))

/-- The exponent field of a tile's gate or up half. -/
def expo (p : Fin 2) (l : Fin 4 → Vec F S32x2x128 .bf16) : IVec S8x128 32 :=
  ladderV (scaledMax (maxOf p l))

/-- The scale of a tile's gate or up half, spread out. -/
def tileScale (p : Fin 2) (l : Fin 4 → Vec F S32x2x128 .bf16) : FVec F S8x128 .f32 :=
  scaleV (expo p l)

/-- The two inverse scales of a tile, gate and up in alternating rows. -/
def tileInv (l : Fin 4 → Vec F S32x2x128 .bf16) : FVec F S32x128 .bf16 :=
  bitcastToFloat .bf16 (bitcast S32x128 16 (concatenate S16x128 0
    [⟨S8x128, ori (shrui (invV (expo 0 l)) (broadcast S8x128 16#32)) (invV (expo 1 l))⟩,
     ⟨S8x128, ori (shrui (invV (expo 0 l)) (broadcast S8x128 16#32)) (invV (expo 1 l))⟩]
    concatenates_S8x128_S8x128_S16x128_d0) bitcasts_S16x128_w32_S32x128_w16)

/-- The codes of 32 rows, gate and up alternating. -/
def codesV (inv rows : FVec F S32x128 .bf16) : FVec F S16x2x128 .fp8e4m3 :=
  shapeCast S16x2x128 (truncf .fp8e4m3 (minimumf (broadcast S32x128 (Scalar.ofBits .bf16 0x43E0#16))
    (maximumf (broadcast S32x128 (Scalar.ofBits .bf16 0xC3E0#16)) (mulf rows inv))) bitsLt_fp8e4m3_bf16)
    shapeCasts_S32x128_S16x2x128

/-- The gate codes of 32 rows. -/
def codesGate (inv : FVec F S32x128 .bf16) (l : Vec F S32x2x128 .bf16) : FVec F S1x32x128 .fp8e4m3 :=
  shapeCast S1x32x128 (shapeCast S32x128 (concatenate S16x2x128 1
    [⟨S16x1x128, extractStridedSlice S16x1x128 ![0, 0, 0] (codesV inv (rowsE l)) slices_S16x2x128_o0_0_0_S16x1x128⟩,
     ⟨S16x1x128, extractStridedSlice S16x1x128 ![0, 0, 0] (codesV inv (rowsO l)) slices_S16x2x128_o0_0_0_S16x1x128⟩]
    concatenates_S16x1x128_S16x1x128_S16x2x128_d1) shapeCasts_S16x2x128_S32x128) shapeCasts_S32x128_S1x32x128

/-- The up codes of 32 rows. -/
def codesUp (inv : FVec F S32x128 .bf16) (l : Vec F S32x2x128 .bf16) : FVec F S1x32x128 .fp8e4m3 :=
  shapeCast S1x32x128 (shapeCast S32x128 (concatenate S16x2x128 1
    [⟨S16x1x128, extractStridedSlice S16x1x128 ![0, 1, 0] (codesV inv (rowsE l)) slices_S16x2x128_o0_1_0_S16x1x128⟩,
     ⟨S16x1x128, extractStridedSlice S16x1x128 ![0, 1, 0] (codesV inv (rowsO l)) slices_S16x2x128_o0_1_0_S16x1x128⟩]
    concatenates_S16x1x128_S16x1x128_S16x2x128_d1) shapeCasts_S16x2x128_S32x128) shapeCasts_S32x128_S1x32x128

/-! ## The tiles of a block -/

/-- The first `n` tiles, last first. -/
def tilesDown : (n : ℕ) → n ≤ 37 → List (Fin 37)
  | 0, _ => []
  | n + 1, h => ⟨n, h⟩ :: tilesDown n (Nat.le_of_succ_le h)

theorem mem_tilesDown : ∀ (n : ℕ) (h : n ≤ 37) (t : Fin 37), t.val < n → t ∈ tilesDown n h
  | 0, _, _, ht => absurd ht (Nat.not_lt_zero _)
  | n + 1, h, t, ht => by
    rcases Nat.lt_succ_iff_lt_or_eq.1 ht with h1 | h1
    · exact List.mem_cons_of_mem _ (mem_tilesDown n _ t h1)
    · subst h1; exact List.mem_cons_self

theorem inb_ld (t : Fin 37) (q : Fin 4) :
    ∀ a, (![32 * q.val, 0, 128 * t.val] : Fin 3 → ℕ) a + S32x2x128.size a ≤ S128x2x4736.size a
  | ⟨0, _⟩ => by show 32 * q.val + 32 ≤ 128; omega
  | ⟨1, _⟩ => by show 0 + 2 ≤ 2; omega
  | ⟨2, _⟩ => by show 128 * t.val + 128 ≤ 4736; omega

theorem inb_st (h : Fin 2) (t : Fin 37) (q : Fin 4) :
    ∀ a, (![h.val, 32 * q.val, 128 * t.val] : Fin 3 → ℕ) a + S1x32x128.size a ≤ S2x128x4736.size a
  | ⟨0, _⟩ => by show h.val + 1 ≤ 2; omega
  | ⟨1, _⟩ => by show 32 * q.val + 32 ≤ 128; omega
  | ⟨2, _⟩ => by show 128 * t.val + 128 ≤ 4736; omega

/-- The 32 rows `q` of tile `t`, as loaded from the weight block. -/
abbrev ldW (arg3 : Memref sig .tc .vmem S128x2x4736 .bf16) (harg3 : arg3.IsWhole) (x1 : Vec F S128x2x4736 .bf16)
    (t : Fin 37) (q : Fin 4) : Vec F S32x2x128 .bf16 :=
  View.readAt (Elt F) arg3.view (Rect.unit (s := S128x2x4736) ![32 * q.val, 0, 128 * t.val] S32x2x128.size (inb_ld t q)).toLoadRect
    (harg3.unread x1)

/-- The two stores of 32 rows of codes (up stored after gate). -/
def codePieces (l : Fin 37 → Fin 4 → Vec F S32x2x128 .bf16) (t : Fin 37) (q : Fin 4) :
    List (View.Piece (Elt F) S2x128x4736 .fp8e4m3) :=
  [⟨Rect.unit (s := S2x128x4736) ![(1 : Fin 2).val, 32 * q.val, 128 * t.val] S1x32x128.size (inb_st 1 t q), codesUp (tileInv (l t)) (l t q)⟩,
   ⟨Rect.unit (s := S2x128x4736) ![(0 : Fin 2).val, 32 * q.val, 128 * t.val] S1x32x128.size (inb_st 0 t q), codesGate (tileInv (l t)) (l t q)⟩]

/-- The stores of the codes of a whole block, last first. -/
def codeList (l : Fin 37 → Fin 4 → Vec F S32x2x128 .bf16) : List (View.Piece (Elt F) S2x128x4736 .fp8e4m3) :=
  (tilesDown 37 le_rfl).flatMap fun t =>
    codePieces l t 3 ++ (codePieces l t 2 ++ (codePieces l t 1 ++ codePieces l t 0))

/-- One tile's entry written into a row of scales. -/
def putScale (j : BitVec 32) (t : BitVec 32) (s : FVec F S8x128 .f32) (prev : FVec F S1x148 .f32) : FVec F S1x148 .f32 :=
  select (cmpi .eq (iota .tc S1x148 32 [1] iota_S1x148_d1_w32) (broadcast S1x148 (Scalar.addi (Scalar.muli j 37#32) t)))
    (broadcastTo S1x148 (shapeCast S1x1 (extractStridedSlice S1x1 ![0, 0] s slices_S8x128_o0_0_S1x1) shapeCasts_S1x1_S1x1)
      broadcasts_S1x1_S1x148) prev

/-- A row of scales after the first `n` tiles. -/
def putScales (j : BitVec 32) (s : Fin 37 → FVec F S8x128 .f32) (prev : FVec F S1x148 .f32) : (n : ℕ) → n ≤ 37 → FVec F S1x148 .f32
  | 0, _ => prev
  | n + 1, h => putScale j (BitVec.ofNat 32 n) (s ⟨n, h⟩) (putScales j s prev n (Nat.le_of_succ_le h))

/-- The row of scales of gate or up after all tiles, as stored. -/
def scaleRow (j : BitVec 32) (p : Fin 2) (l : Fin 37 → Fin 4 → Vec F S32x2x128 .bf16) (prev : Vec F S1x1x148 .f32) :
    FVec F S1x1x148 .f32 :=
  shapeCast S1x1x148 (putScales j (fun t => tileScale p (l t)) (shapeCast S1x148 prev shapeCasts_S1x1x148_S1x148) 37 le_rfl)
    shapeCasts_S1x148_S1x1x148

/-! ## The accumulated product -/

theorem inb_acc2 (h : Fin 2) (p : Fin 18) : ∀ a, (![h.val, 0, 256 * p.val] : Fin 3 → ℕ) a + S1x8x256.size a ≤ S2x8x4736.size a
  | ⟨0, _⟩ => by show h.val + 1 ≤ 2; omega
  | ⟨1, _⟩ => by show 0 + 8 ≤ 8; omega
  | ⟨2, _⟩ => by show 256 * p.val + 256 ≤ 4736; omega

theorem inb_wc2 (h : Fin 2) (p : Fin 18) : ∀ a, (![h.val, 0, 256 * p.val] : Fin 3 → ℕ) a + S1x128x256.size a ≤ S2x128x4736.size a
  | ⟨0, _⟩ => by show h.val + 1 ≤ 2; omega
  | ⟨1, _⟩ => by show 0 + 128 ≤ 128; omega
  | ⟨2, _⟩ => by show 256 * p.val + 256 ≤ 4736; omega

theorem inb_acc1 (h : Fin 2) : ∀ a, (![h.val, 0, 4608] : Fin 3 → ℕ) a + S1x8x128.size a ≤ S2x8x4736.size a
  | ⟨0, _⟩ => by show h.val + 1 ≤ 2; omega
  | ⟨1, _⟩ => by show 0 + 8 ≤ 8; omega
  | ⟨2, _⟩ => by show 4608 + 128 ≤ 4736; omega

theorem inb_wc1 (h : Fin 2) : ∀ a, (![h.val, 0, 4608] : Fin 3 → ℕ) a + S1x128x128.size a ≤ S2x128x4736.size a
  | ⟨0, _⟩ => by show h.val + 1 ≤ 2; omega
  | ⟨1, _⟩ => by show 0 + 128 ≤ 128; omega
  | ⟨2, _⟩ => by show 4608 + 128 ≤ 4736; omega

/-- Where the accumulator's columns of two tiles lie. -/
abbrev rAcc2 (h : Fin 2) (p : Fin 18) : Rect S2x8x4736 := Rect.unit (s := S2x8x4736) ![h.val, 0, 256 * p.val] S1x8x256.size (inb_acc2 h p)
/-- Where the codes of two tiles lie. -/
abbrev rWc2 (h : Fin 2) (p : Fin 18) : Rect S2x128x4736 := Rect.unit (s := S2x128x4736) ![h.val, 0, 256 * p.val] S1x128x256.size (inb_wc2 h p)
/-- Where the accumulator's columns of the last tile lie. -/
abbrev rAcc1 (h : Fin 2) : Rect S2x8x4736 := Rect.unit (s := S2x8x4736) ![h.val, 0, 4608] S1x8x128.size (inb_acc1 h)
/-- Where the codes of the last tile lie. -/
abbrev rWc1 (h : Fin 2) : Rect S2x128x4736 := Rect.unit (s := S2x128x4736) ![h.val, 0, 4608] S1x128x128.size (inb_wc1 h)

/-- Two tiles' columns of the accumulator after their product is added. -/
def accPart2 (xw : Vec F S1x16x128 .bf16) (wc : Vec F S1x128x256 .fp8e4m3) (s0 s1 : FVec F S8x128 .f32) (prev : Vec F S1x8x256 .f32) :
    FVec F S1x8x256 .f32 :=
  shapeCast S1x8x256 (addf (shapeCast S8x256 prev shapeCasts_S1x8x256_S8x256)
    (mulf (extractStridedSlice S8x256 ![0, 0] (matmul dot_S16x128_S128x256_S16x256_1_0_0_1_n_n none
      (shapeCast S16x128 xw shapeCasts_S1x16x128_S16x128 : FVec F S16x128 .bf16)
      (shapeCast S128x256 wc shapeCasts_S1x128x256_S128x256 : FVec F S128x256 .fp8e4m3)
      (constant S16x256 .f32 0x00000000#32)) slices_S16x256_o0_0_S8x256)
      (concatenate S8x256 1 [⟨S8x128, s0⟩, ⟨S8x128, s1⟩] concatenates_S8x128_S8x128_S8x256_d1)))
    shapeCasts_S8x256_S1x8x256

/-- The last tile's columns of the accumulator after its product is added. -/
def accPart1 (xw : Vec F S1x16x128 .bf16) (wc : Vec F S1x128x128 .fp8e4m3) (s0 : FVec F S8x128 .f32) (prev : Vec F S1x8x128 .f32) :
    FVec F S1x8x128 .f32 :=
  shapeCast S1x8x128 (addf (shapeCast S8x128 prev shapeCasts_S1x8x128_S8x128)
    (mulf (extractStridedSlice S8x128 ![0, 0] (matmul dot_S16x128_S128x128_S16x128_1_0_0_1_n_n none
      (shapeCast S16x128 xw shapeCasts_S1x16x128_S16x128 : FVec F S16x128 .bf16)
      (shapeCast S128x128 wc shapeCasts_S1x128x128_S128x128 : FVec F S128x128 .fp8e4m3)
      (constant S16x128 .f32 0x00000000#32)) slices_S16x128_o0_0_S8x128) s0))
    shapeCasts_S8x128_S1x8x128

section Acc

variable (xw : Vec F S1x16x128 .bf16) (wc : (r : Rect S2x128x4736) → r.shape.Idx → Elt F .fp8e4m3)
  (s : Fin 2 → Fin 37 → FVec F S8x128 .f32)
  (rd : List (View.Piece (Elt F) S2x8x4736 .f32) → (r : Rect S2x8x4736) → r.shape.Idx → Elt F .f32)

/-- The stores of the first `n` pairs of tiles of half `h`, last first, over earlier stores; `rd` says what a load of the
    accumulator reads after given stores. -/
def accPairs (h : Fin 2) (base : List (View.Piece (Elt F) S2x8x4736 .f32)) : (n : ℕ) → n ≤ 18 → List (View.Piece (Elt F) S2x8x4736 .f32)
  | 0, _ => base
  | n + 1, hn =>
    ⟨rAcc2 h ⟨n, hn⟩, accPart2 xw (wc (rWc2 h ⟨n, hn⟩)) (s h ⟨2 * n, by omega⟩) (s h ⟨2 * n + 1, by omega⟩)
      (rd (accPairs h base n (Nat.le_of_succ_le hn)) (rAcc2 h ⟨n, hn⟩))⟩ :: accPairs h base n (Nat.le_of_succ_le hn)

/-- All stores to half `h` of the accumulator. -/
def accRow (h : Fin 2) (base : List (View.Piece (Elt F) S2x8x4736 .f32)) : List (View.Piece (Elt F) S2x8x4736 .f32) :=
  ⟨rAcc1 h, accPart1 xw (wc (rWc1 h)) (s h 36) (rd (accPairs xw wc s rd h base 18 le_rfl) (rAcc1 h))⟩
    :: accPairs xw wc s rd h base 18 le_rfl

/-- All stores to the accumulator, gate first. -/
def accList (base : List (View.Piece (Elt F) S2x8x4736 .f32)) : List (View.Piece (Elt F) S2x8x4736 .f32) :=
  accRow xw wc s rd 1 (accRow xw wc s rd 0 base)

end Acc

/-! ## The input's blocks -/

theorem inb_x (k : Fin 28) : ∀ a, (![0, 128 * k.val] : Fin 2 → ℕ) a + S4x128.size a ≤ S4x3584.size a
  | ⟨0, _⟩ => by show 0 + 4 ≤ 4; omega
  | ⟨1, _⟩ => by show 128 * k.val + 128 ≤ 3584; omega

theorem inb_xw (k : Fin 28) : ∀ a, (![k.val, 0, 0] : Fin 3 → ℕ) a + S1x16x128.size a ≤ S28x16x128.size a
  | ⟨0, _⟩ => by show k.val + 1 ≤ 28; omega
  | ⟨1, _⟩ => by show 0 + 16 ≤ 16; omega
  | ⟨2, _⟩ => by show 0 + 128 ≤ 128; omega

/-- Block `k` of the input, as loaded. -/
abbrev ldX (arg2 : Memref sig .tc .vmem S4x3584 .bf16) (harg2 : arg2.IsWhole) (x0 : Vec F S4x3584 .bf16) (k : Fin 28) :
    Vec F S4x128 .bf16 :=
  View.readAt (Elt F) arg2.view (Rect.unit (s := S4x3584) ![0, 128 * k.val] S4x128.size (inb_x k)).toLoadRect (harg2.unread x0)

/-- A block of the input in single precision. -/
def xF (l : Vec F S4x128 .bf16) : FVec F S4x128 .f32 :=
  extf .f32 (shapeCast S4x128 l shapeCasts_S4x128_S4x128 : FVec F S4x128 .bf16) bitsLt_bf16_f32

/-- The exponent field of each row's largest magnitude over 448. -/
def xExpo (l : Vec F S4x128 .bf16) : IVec S4x128 32 :=
  ladderV (mulf (broadcastTo S4x128 (shapeCast S4x1 (shapeCast S4x1 (multiReduction .maximumf [1] S4 (absf (xF l)) 0xFF800000#32
    reduces_S4x128_S4 (.inl rfl) rfl) shapeCasts_S4_S4x1) shapeCasts_S4x1_S4x1) broadcasts_S4x1_S4x128)
    (broadcast S4x128 (Scalar.ofBits .f32 0x3B124925#32)))

/-- The codes of a block of the input. -/
def xCodes (l : Vec F S4x128 .bf16) : FVec F S4x128 .fp8e4m3 :=
  truncf .fp8e4m3 (minimumf (broadcast S4x128 (Scalar.ofBits .f32 0x43E00000#32))
    (maximumf (broadcast S4x128 (Scalar.ofBits .f32 0xC3E00000#32)) (mulf (xF l) (bitcastToFloat .f32 (invV (xExpo l))))))
    bitsLt_fp8e4m3_f32

/-- The dequantised block of the input, under twelve rows of zeros. -/
def xwV (l : Vec F S4x128 .bf16) : FVec F S1x16x128 .bf16 :=
  shapeCast S1x16x128 (truncf .bf16 (concatenate S16x128 0
    [⟨S4x128, mulf (extf .f32 (xCodes l) bitsLt_fp8e4m3_f32) (scaleV (xExpo l))⟩,
     ⟨S12x128, broadcast S12x128 (Scalar.ofBits .f32 0x00000000#32)⟩] concatenates_S4x128_S12x128_S16x128_d0)
    bitsLt_bf16_f32) shapeCasts_S16x128_S1x16x128

section X

variable (l : Fin 28 → Vec F S4x128 .bf16)

/-- The input's scales, collected lane by lane over the first `n` blocks. -/
def xScales : (n : ℕ) → n ≤ 28 → FVec F S4x128 .f32
  | 0, _ => broadcast S4x128 (Scalar.ofBits .f32 0x00000000#32)
  | n + 1, h => select (cmpi .eq (iota .tc S4x128 32 [1] iota_S4x128_d1_w32) (broadcast S4x128 (BitVec.ofNat 32 n)))
      (scaleV (xExpo (l ⟨n, h⟩))) (xScales n (Nat.le_of_succ_le h))

/-- The stores of the input's codes, last first. -/
def xCodeList : (n : ℕ) → n ≤ 28 → List (View.Piece (Elt F) S4x3584 .fp8e4m3)
  | 0, _ => []
  | n + 1, h => ⟨Rect.unit (s := S4x3584) ![0, 128 * (⟨n, h⟩ : Fin 28).val] S4x128.size (inb_x ⟨n, h⟩), xCodes (l ⟨n, h⟩)⟩
      :: xCodeList n (Nat.le_of_succ_le h)

/-- The stores of the dequantised input, last first. -/
def xwList : (n : ℕ) → n ≤ 28 → List (View.Piece (Elt F) S28x16x128 .bf16)
  | 0, _ => []
  | n + 1, h => ⟨Rect.unit (s := S28x16x128) ![(⟨n, h⟩ : Fin 28).val, 0, 0] S1x16x128.size (inb_xw ⟨n, h⟩), xwV (l ⟨n, h⟩)⟩
      :: xwList n (Nat.le_of_succ_le h)

/-- The input's scales, as stored. -/
def xsV : FVec F S4x1x28 .f32 :=
  shapeCast S4x1x28 (extractStridedSlice S4x28 ![0, 0] (xScales l 28 le_rfl) slices_S4x128_o0_0_S4x28) shapeCasts_S4x28_S4x1x28

end X

end Cert.KernelIdeal.Hand

end
-- ==== Proof.TileRead.lean ====
module

public import Idealize.ShloMosaic.Lib.Pointwise
public import proofs.«01_k».proof.Proof.Spec
public import proofs.«01_k».proof.Proof.Tile

@[expose] public section

set_option maxRecDepth 65536

namespace Cert.KernelIdeal.Hand

open Idealize.ShloMosaic Cert.KernelIdeal.Gen

noncomputable section

/-- The magnitude of an extended real. -/
def absE (z : EReal) : EReal := max z (-z)

theorem rowsE_apply (l : Vec Ideal S32x2x128 .bf16) (a : Fin 32) (n : Fin 128) :
    rowsE l (ix2 a n) = l (ix3 ⟨2 * (a / 2), by omega⟩ ⟨a % 2, by omega⟩ n) := by
  pointwise [rowsE]
  congr 2 <;> apply Fin.ext <;> simp <;> omega

theorem rowsO_apply (l : Vec Ideal S32x2x128 .bf16) (a : Fin 32) (n : Fin 128) :
    rowsO l (ix2 a n) = l (ix3 ⟨2 * (a / 2) + 1, by omega⟩ ⟨a % 2, by omega⟩ n) := by
  pointwise [rowsO]
  congr 2 <;> apply Fin.ext <;> simp <;> omega

theorem maxRows_apply (l : Fin 4 → Vec Ideal S32x2x128 .bf16) (a : Fin 32) (n : Fin 128) :
    maxRows l (ix2 a n) = max (max (max (max (max (max (max (absE (rowsE (l 0) (ix2 a n))) (absE (rowsO (l 0) (ix2 a n))))
      (absE (rowsE (l 1) (ix2 a n)))) (absE (rowsO (l 1) (ix2 a n)))) (absE (rowsE (l 2) (ix2 a n))))
      (absE (rowsO (l 2) (ix2 a n)))) (absE (rowsE (l 3) (ix2 a n)))) (absE (rowsO (l 3) (ix2 a n))) := rfl

theorem maxRows_le (l : Fin 4 → Vec Ideal S32x2x128 .bf16) (a : Fin 32) (n : Fin 128) (b : EReal)
    (h : ∀ (q : Fin 4) (o : Fin 2), absE (l q (ix3 ⟨2 * (a / 2) + o, by omega⟩ ⟨a % 2, by omega⟩ n)) ≤ b) :
    maxRows l (ix2 a n) ≤ b := by
  rw [maxRows_apply]
  simp only [rowsE_apply, rowsO_apply, max_le_iff]
  exact ⟨⟨⟨⟨⟨⟨⟨h 0 0, h 0 1⟩, h 1 0⟩, h 1 1⟩, h 2 0⟩, h 2 1⟩, h 3 0⟩, h 3 1⟩

theorem le_maxRows (l : Fin 4 → Vec Ideal S32x2x128 .bf16) (a : Fin 32) (n : Fin 128) (q : Fin 4) (o : Fin 2) :
    absE (l q (ix3 ⟨2 * (a / 2) + o, by omega⟩ ⟨a % 2, by omega⟩ n)) ≤ maxRows l (ix2 a n) := by
  rw [maxRows_apply]
  simp only [rowsE_apply, rowsO_apply, le_max_iff]
  match q, o with
  | 0, 0 => exact .inl (.inl (.inl (.inl (.inl (.inl (.inl le_rfl))))))
  | 0, 1 => exact .inl (.inl (.inl (.inl (.inl (.inl (.inr le_rfl))))))
  | 1, 0 => exact .inl (.inl (.inl (.inl (.inl (.inr le_rfl)))))
  | 1, 1 => exact .inl (.inl (.inl (.inl (.inr le_rfl))))
  | 2, 0 => exact .inl (.inl (.inl (.inr le_rfl)))
  | 2, 1 => exact .inl (.inl (.inr le_rfl))
  | 3, 0 => exact .inl (.inr le_rfl)
  | 3, 1 => exact .inr le_rfl

theorem maxOf_apply (p : Fin 2) (l : Fin 4 → Vec Ideal S32x2x128 .bf16) (r : Fin 8) (n : Fin 128) :
    maxOf p l (ix2 r n) = max (maxRows l (ix2 ⟨2 * r + p, by omega⟩ n)) (maxRows l (ix2 ⟨16 + (2 * r + p), by omega⟩ n)) := by
  pointwise [maxOf, maxHalf]

/-- The greatest magnitude of a tile's gate or up half, over 448: what the kernel spreads out is this number. -/
theorem scaledMax_maxOf (p : Fin 2) (l : Fin 4 → Vec Ideal S32x2x128 .bf16) (w : Fin 128 → Fin 128 → EReal)
    (hl : ∀ (q : Fin 4) (a : Fin 32) (n : Fin 128), l q (ix3 a p n) = w ⟨32 * q + a, by omega⟩ n) (r : Fin 8) (n : Fin 128) :
    scaledMax (maxOf p l) (ix2 r n) = Spec.amax (fun i : Fin 128 × Fin 128 => w i.1 i.2) * Spec.c448 := by
  pointwise [scaledMax]
  refine congrArg (· * Spec.c448) ?_
  rw [Spec.fold_max]
  simp only [Spec.fold_max, maxOf_apply]
  have row : ∀ (a : Fin 32) (o : Fin 2) (n : Fin 128) (q : Fin 4), a.val % 2 = p.val →
      l q (ix3 ⟨2 * (a / 2) + o, by omega⟩ ⟨a % 2, by omega⟩ n) = w ⟨32 * q + (2 * (a / 2) + o), by omega⟩ n := by
    intro a o n q ha
    refine Eq.trans ?_ (hl q ⟨2 * (a / 2) + o, by omega⟩ n)
    congr 2
    exact Fin.ext ha
  apply le_antisymm
  · refine Finset.sup_le fun n _ => Finset.sup_le fun r _ => max_le ?_ ?_ <;> refine maxRows_le _ _ _ _ fun q o => ?_
    · rw [row _ _ _ _ (by simp; omega)]
      exact Finset.le_sup (f := fun i : Fin 128 × Fin 128 => absE (w i.1 i.2)) (Finset.mem_univ (_, _))
    · rw [row _ _ _ _ (by simp; omega)]
      exact Finset.le_sup (f := fun i : Fin 128 × Fin 128 => absE (w i.1 i.2)) (Finset.mem_univ (_, _))
  · refine Finset.sup_le fun i _ => ?_
    obtain ⟨d, n⟩ := i
    refine le_trans ?_ (Finset.le_sup (Finset.mem_univ n))
    refine le_trans ?_ (Finset.le_sup (Finset.mem_univ (⟨d % 16 / 2, by omega⟩ : Fin 8)))
    rw [le_max_iff]
    by_cases hd : d.val % 32 < 16
    · left
      refine le_trans (le_of_eq ?_) (le_maxRows l _ n ⟨d / 32, by omega⟩ ⟨d % 2, by omega⟩)
      rw [row _ _ _ _ (by simp; omega)]
      refine congrArg absE (congrArg₂ w (Fin.ext ?_) rfl)
      simp
      omega
    · right
      refine le_trans (le_of_eq ?_) (le_maxRows l _ n ⟨d / 32, by omega⟩ ⟨d % 2, by omega⟩)
      rw [row _ _ _ _ (by simp; omega)]
      refine congrArg absE (congrArg₂ w (Fin.ext ?_) rfl)
      simp
      omega

theorem rung_apply {s : Shape} (v : FVec Ideal s .f32) (u : IVec s 32) (b : BitVec 32) (j : s.Idx) :
    rung v u b j = Pow2.step (v j) (u j) b := rfl

theorem ladderV_apply {s : Shape} (v : FVec Ideal s .f32) (j : s.Idx) : ladderV v j = Pow2.ladder (v j) := by
  simp only [ladderV, rung_apply, Pow2.ladder]
  rfl

theorem special_cond (u : BitVec 32) :
    (IntOp.ori (IntOp.cmpi .eq u 0#32) (IntOp.cmpi .eq u 2139095040#32) = 1#1) ↔ Pow2.special u := by
  unfold Pow2.special IntOp.cmpi IntOp.ori
  by_cases h1 : u = 0#32 <;> by_cases h2 : u = 2139095040#32 <;> simp [h1, h2, beq_eq_false_iff_ne.2]

theorem scaleV_apply {s : Shape} (u : IVec s 32) (j : s.Idx) : scaleV (F := Ideal) u j = Ideal.ofBits .f32 (Pow2.scaleWord (u j)) := by
  show Ideal.ofBits .f32 (if IntOp.ori (IntOp.cmpi .eq (u j) 0#32) (IntOp.cmpi .eq (u j) 2139095040#32) = 1#1 then 1065353216#32 else IntOp.addi (u j) 8388608#32) = _
  simp only [special_cond]
  rfl

theorem invV_apply {s : Shape} (u : IVec s 32) (j : s.Idx) : invV u j = Pow2.invWord (u j) := by
  show (if IntOp.ori (IntOp.cmpi .eq (u j) 0#32) (IntOp.cmpi .eq (u j) 2139095040#32) = 1#1 then 1065353216#32 else IntOp.subi 2122317824#32 (u j)) = _
  simp only [special_cond]
  rfl

end

end Cert.KernelIdeal.Hand
-- ==== Proof.CodesRead.lean ====
module

public import Idealize.ShloMosaic.Lib.BitcastPair
public import proofs.«01_k».proof.Proof.HalfWord
public import proofs.«01_k».proof.Proof.TileRead

@[expose] public section

set_option maxRecDepth 65536

namespace Cert.KernelIdeal.Hand

open Idealize.ShloMosaic Cert.KernelIdeal.Gen

noncomputable section

/-- The greatest magnitude of a family of numbers over 448. -/
def top {ι : Type} [Fintype ι] (w : ι → EReal) : EReal := Spec.amax w * Spec.c448

/-- A tile of the weights by halves, rows and lanes. -/
def tileOf (l : Fin 4 → Vec Ideal S32x2x128 .bf16) (p : Fin 2) : Fin 128 × Fin 128 → EReal :=
  fun i => l ⟨i.1 / 32, by omega⟩ (ix3 ⟨i.1 % 32, by omega⟩ p i.2)

theorem expo_apply (p : Fin 2) (l : Fin 4 → Vec Ideal S32x2x128 .bf16) (r : Fin 8) (n : Fin 128) :
    expo p l (ix2 r n) = Pow2.ladder (top (tileOf l p)) := by
  unfold expo
  rw [ladderV_apply]
  refine congrArg Pow2.ladder (scaledMax_maxOf p l (fun d n => tileOf l p (d, n)) (fun q a n => ?_) r n)
  unfold tileOf
  dsimp only
  congr 2
  · apply Fin.ext; simp; omega
  · apply Fin.ext; simp; omega

theorem tileScale_apply (p : Fin 2) (l : Fin 4 → Vec Ideal S32x2x128 .bf16) (r : Fin 8) (n : Fin 128) :
    tileScale (F := Ideal) p l (ix2 r n) = Pow2.kscale (top (tileOf l p)) := by
  unfold tileScale
  rw [scaleV_apply, expo_apply]
  rfl

theorem tileInv_apply (l : Fin 4 → Vec Ideal S32x2x128 .bf16) (a : Fin 32) (n : Fin 128) :
    tileInv l (ix2 a n) = Pow2.kinv (top (tileOf l ⟨a % 2, by omega⟩)) := by
  have hw : ∀ (r : Fin 8) (n : Fin 128),
      ori (shrui (invV (expo 0 l)) (broadcast S8x128 16#32)) (invV (expo 1 l)) (ix2 r n)
        = (Pow2.invWord (Pow2.ladder (top (tileOf l 0))) >>> 16 ||| Pow2.invWord (Pow2.ladder (top (tileOf l 1)))) := by
    intro r n
    show IntOp.ori (IntOp.shrui .vector (invV (expo 0 l) (ix2 r n)) 16#32) (invV (expo 1 l) (ix2 r n)) = _
    rw [invV_apply, invV_apply, expo_apply, expo_apply]
    rfl
  have hc : ∀ (r : Fin 16) (n : Fin 128), concatenate S16x128 0
    [⟨S8x128, ori (shrui (invV (expo 0 l)) (broadcast S8x128 16#32)) (invV (expo 1 l))⟩,
     ⟨S8x128, ori (shrui (invV (expo 0 l)) (broadcast S8x128 16#32)) (invV (expo 1 l))⟩]
    concatenates_S8x128_S8x128_S16x128_d0 (ix2 r n) = (Pow2.invWord (Pow2.ladder (top (tileOf l 0))) >>> 16 ||| Pow2.invWord (Pow2.ladder (top (tileOf l 1)))) := by
    generalize hW : ori (shrui (invV (expo 0 l)) (broadcast S8x128 16#32)) (invV (expo 1 l)) = W at hw ⊢
    intro r n
    pointwise []
    simp only [hw]
    split_ifs <;> rfl
  have hc' : ∀ j, concatenate S16x128 0
    [⟨S8x128, ori (shrui (invV (expo 0 l)) (broadcast S8x128 16#32)) (invV (expo 1 l))⟩,
     ⟨S8x128, ori (shrui (invV (expo 0 l)) (broadcast S8x128 16#32)) (invV (expo 1 l))⟩]
    concatenates_S8x128_S8x128_S16x128_d0 j = (Pow2.invWord (Pow2.ladder (top (tileOf l 0))) >>> 16 ||| Pow2.invWord (Pow2.ladder (top (tileOf l 1)))) := by
    intro j
    rw [show j = ix2 (j 0) (j 1) from funext fun a => match a with | ⟨0, _⟩ => rfl | ⟨1, _⟩ => rfl]
    exact hc _ _
  have hrow : S32x128.row (ix2 a n) = a.val := rfl
  unfold tileInv
  show Ideal.ofBits .bf16 (bitcast S32x128 16 _ _ (ix2 a n)) = _
  rw [bitcast_32_16, hc', hrow]
  rcases Nat.mod_two_eq_zero_or_one a.val with h | h
  · rw [show (⟨a % 2, by omega⟩ : Fin 2) = 0 from Fin.ext h, h]
    exact Pow2.pack_lo _ _
  · rw [show (⟨a % 2, by omega⟩ : Fin 2) = 1 from Fin.ext h, h]
    exact Pow2.pack_hi _ _

theorem ofBits_lo : Ideal.ofBits .bf16 0xC3E0#16 = Ideal.ofBits .f32 0xC3E00000#32 := by
  show Ideal.ieee 8 7 (0xC3E0#16) = Ideal.ieee 8 23 (0xC3E00000#32)
  unfold Ideal.ieee
  rw [show ((0xC3E0#16).extractLsb' (8 + 7) 1 == 1#1) = true by decide, show ((0xC3E00000#32).extractLsb' (8 + 23) 1 == 1#1) = true by decide,
    show ((0xC3E0#16).extractLsb' 7 8).toNat = 135 by decide, show ((0xC3E00000#32).extractLsb' 23 8).toNat = 135 by decide,
    show ((0xC3E0#16).extractLsb' 0 7).toNat = 96 by decide, show ((0xC3E00000#32).extractLsb' 0 23).toNat = 6291456 by decide]
  norm_num

theorem ofBits_hi : Ideal.ofBits .bf16 0x43E0#16 = Ideal.ofBits .f32 0x43E00000#32 := by
  show Ideal.ieee 8 7 (0x43E0#16) = Ideal.ieee 8 23 (0x43E00000#32)
  unfold Ideal.ieee
  rw [show ((0x43E0#16).extractLsb' (8 + 7) 1 == 1#1) = false by decide, show ((0x43E00000#32).extractLsb' (8 + 23) 1 == 1#1) = false by decide,
    show ((0x43E0#16).extractLsb' 7 8).toNat = 135 by decide, show ((0x43E00000#32).extractLsb' 23 8).toNat = 135 by decide,
    show ((0x43E0#16).extractLsb' 0 7).toNat = 96 by decide, show ((0x43E00000#32).extractLsb' 0 23).toNat = 6291456 by decide]
  norm_num

theorem codesGate_apply (inv : FVec Ideal S32x128 .bf16) (l : Vec Ideal S32x2x128 .bf16) (r : Fin 32) (n : Fin 128) :
    codesGate inv l (ix3 0 r n) = Spec.clip (l (ix3 r 0 n) * inv (ix2 ⟨2 * (r / 2), by omega⟩ n)) := by
  pointwise [codesGate, codesV]
  rw [ofBits_lo, ofBits_hi]
  unfold Spec.clip
  rcases Nat.mod_two_eq_zero_or_one r.val with h | h
  · rw [dif_pos (by omega), rowsE_apply]
    congr 3
    · congr 1; · congr 1 <;> apply Fin.ext <;> simp <;> omega
    · congr 1; · congr 1; apply Fin.ext; simp; omega
  · rw [dif_neg (by omega), rowsO_apply]
    congr 3
    · congr 1; · congr 1 <;> apply Fin.ext <;> simp <;> omega
    · congr 1; · congr 1; apply Fin.ext; simp; omega

theorem codesUp_apply (inv : FVec Ideal S32x128 .bf16) (l : Vec Ideal S32x2x128 .bf16) (r : Fin 32) (n : Fin 128) :
    codesUp inv l (ix3 0 r n) = Spec.clip (l (ix3 r 1 n) * inv (ix2 ⟨2 * (r / 2) + 1, by omega⟩ n)) := by
  pointwise [codesUp, codesV]
  rw [ofBits_lo, ofBits_hi]
  unfold Spec.clip
  rcases Nat.mod_two_eq_zero_or_one r.val with h | h
  · rw [dif_pos (by omega), rowsE_apply]
    congr 3
    · congr 1; · congr 1 <;> apply Fin.ext <;> simp <;> omega
    · congr 1; · congr 1; apply Fin.ext; simp; omega
  · rw [dif_neg (by omega), rowsO_apply]
    congr 3
    · congr 1; · congr 1 <;> apply Fin.ext <;> simp <;> omega
    · congr 1; · congr 1; apply Fin.ext; simp; omega

end

end Cert.KernelIdeal.Hand
-- ==== Proof.AccRead.lean ====
module

public import proofs.«01_k».proof.Proof.CodesRead

@[expose] public section

set_option maxRecDepth 65536

/-! # The other values of a point, on indices

The rows of scales, the accumulated product and the input's blocks, at an index. -/

namespace Cert.KernelIdeal.Hand

open Idealize.ShloMosaic Cert.KernelIdeal.Gen

noncomputable section

theorem select_eq {α : Type} (a b : BitVec 32) (x y : α) :
    Scalar.select (IntOp.cmpi .eq a b) x y = if a = b then x else y := by
  unfold Scalar.select IntOp.cmpi
  by_cases h : a = b
  · simp [h]
  · have hb : (a == b) = false := beq_eq_false_iff_ne.2 h
    rw [if_neg h]
    simp [hb]

theorem putScale_apply (jv tv : ℕ) (hj : jv < 4) (ht : tv < 37) (s : FVec Ideal S8x128 .f32) (prev : FVec Ideal S1x148 .f32) (n : Fin 148) :
    putScale (BitVec.ofNat 32 jv) (BitVec.ofNat 32 tv) s prev (ix2 0 n) = if n.val = jv * 37 + tv then s (ix2 0 0) else prev (ix2 0 n) := by
  pointwise [putScale]
  rw [select_eq]
  refine if_congr ?_ rfl rfl
  have hn := n.isLt
  show BitVec.ofNat 32 n.val = BitVec.ofNat 32 jv * 37#32 + BitVec.ofNat 32 tv ↔ _
  rw [← BitVec.toNat_inj]
  simp only [BitVec.toNat_ofNat, BitVec.toNat_add, BitVec.toNat_mul]
  omega

theorem putScales_apply (jv : ℕ) (hj : jv < 4) (s : Fin 37 → FVec Ideal S8x128 .f32) (prev : FVec Ideal S1x148 .f32) (n : Fin 148) :
    ∀ (m : ℕ) (hm : m ≤ 37), putScales (BitVec.ofNat 32 jv) s prev m hm (ix2 0 n)
      = if h : jv * 37 ≤ n.val ∧ n.val < jv * 37 + m then s ⟨n.val - jv * 37, by omega⟩ (ix2 0 0) else prev (ix2 0 n)
  | 0, _ => by rw [dif_neg (by omega)]; rfl
  | m + 1, hm => by
    unfold putScales
    rw [putScale_apply jv m hj (by omega), putScales_apply jv hj s prev n m]
    by_cases h : n.val = jv * 37 + m
    · rw [if_pos h, dif_pos (by omega)]
      congr 2
      omega
    · rw [if_neg h]
      by_cases h' : jv * 37 ≤ n.val ∧ n.val < jv * 37 + m
      · rw [dif_pos h', dif_pos (by omega)]
      · rw [dif_neg h', dif_neg (by omega)]

theorem scaleRow_apply (jv : ℕ) (hj : jv < 4) (p : Fin 2) (l : Fin 37 → Fin 4 → Vec Ideal S32x2x128 .bf16)
    (prev : Vec Ideal S1x1x148 .f32) (n : Fin 148) :
    scaleRow (BitVec.ofNat 32 jv) p l prev (ix3 0 0 n)
      = if n.val / 37 = jv then Pow2.kscale (top (tileOf (l ⟨n.val % 37, by omega⟩) p)) else prev (ix3 0 0 n) := by
  have h1 : scaleRow (BitVec.ofNat 32 jv) p l prev (ix3 0 0 n)
      = putScales (BitVec.ofNat 32 jv) (fun t => tileScale p (l t)) (shapeCast S1x148 prev shapeCasts_S1x1x148_S1x148) 37 le_rfl (ix2 0 n) := by
    pointwise [scaleRow]
  have h2 : (shapeCast S1x148 prev shapeCasts_S1x1x148_S1x148 : FVec Ideal S1x148 .f32) (ix2 0 n) = prev (ix3 0 0 n) := by
    pointwise []
  rw [h1, putScales_apply jv hj, h2]
  by_cases h : n.val / 37 = jv
  · rw [if_pos h, dif_pos (by omega), tileScale_apply]
    congr 4
    apply Fin.ext; simp; omega
  · rw [if_neg h, dif_neg (by omega)]

theorem accPart2_apply (xw : Vec Ideal S1x16x128 .bf16) (wc : Vec Ideal S1x128x256 .fp8e4m3) (s0 s1 : FVec Ideal S8x128 .f32)
    (prev : Vec Ideal S1x8x256 .f32) (r : Fin 8) (n : Fin 256) :
    accPart2 xw wc s0 s1 prev (ix3 0 r n) = prev (ix3 0 r n) + (∑ d : Fin 128, xw (ix3 0 ⟨r, by omega⟩ d) * wc (ix3 0 d n)) *
      (if h : n.val < 128 then s0 (ix2 r ⟨n, h⟩) else s1 (ix2 r ⟨n.val - 128, by omega⟩) : EReal) := by
  pointwise [accPart2]

theorem accPart1_apply (xw : Vec Ideal S1x16x128 .bf16) (wc : Vec Ideal S1x128x128 .fp8e4m3) (s0 : FVec Ideal S8x128 .f32)
    (prev : Vec Ideal S1x8x128 .f32) (r : Fin 8) (n : Fin 128) :
    accPart1 xw wc s0 prev (ix3 0 r n) = prev (ix3 0 r n) + (∑ d : Fin 128, xw (ix3 0 ⟨r, by omega⟩ d) * wc (ix3 0 d n)) * (s0 (ix2 r n) : EReal) := by
  pointwise [accPart1]

theorem xExpo_apply (l : Vec Ideal S4x128 .bf16) (r : Fin 4) (n : Fin 128) :
    xExpo l (ix2 r n) = Pow2.ladder (top fun d : Fin 128 => l (ix2 r d)) := by
  unfold xExpo
  rw [ladderV_apply]
  refine congrArg Pow2.ladder ?_
  pointwise [xF]
  rw [Spec.fold_max]
  rfl

theorem xCodes_apply (l : Vec Ideal S4x128 .bf16) (r : Fin 4) (n : Fin 128) :
    xCodes l (ix2 r n) = Spec.clip (l (ix2 r n) * Pow2.kinv (top fun d : Fin 128 => l (ix2 r d))) := by
  pointwise [xCodes, xF]
  rw [invV_apply, xExpo_apply]
  rfl

theorem xScale_apply (l : Vec Ideal S4x128 .bf16) (r : Fin 4) (n : Fin 128) :
    scaleV (F := Ideal) (xExpo l) (ix2 r n) = Pow2.kscale (top fun d : Fin 128 => l (ix2 r d)) := by
  rw [scaleV_apply, xExpo_apply]
  rfl

theorem xwV_apply (l : Vec Ideal S4x128 .bf16) (r : Fin 16) (n : Fin 128) :
    xwV l (ix3 0 r n) = (if h : r.val < 4 then xCodes l (ix2 ⟨r, h⟩ n) * Pow2.kscale (top fun d : Fin 128 => l (ix2 ⟨r, h⟩ d)) else 0 : EReal) := by
  pointwise [xwV]
  by_cases h : r.val < 4
  · rw [dif_pos h, dif_pos h, xScale_apply]
  · rw [dif_neg h, dif_neg h]

theorem xScales_apply (l : Fin 28 → Vec Ideal S4x128 .bf16) (r : Fin 4) (n : Fin 128) :
    ∀ (m : ℕ) (hm : m ≤ 28), xScales l m hm (ix2 r n)
      = (if h : n.val < m then Pow2.kscale (top fun d : Fin 128 => l ⟨n, by omega⟩ (ix2 r d)) else 0 : EReal)
  | 0, _ => by
    rw [dif_neg (by omega)]
    unfold xScales
    pointwise []
  | m + 1, hm => by
    have h1 : xScales l (m + 1) hm (ix2 r n)
        = Scalar.select (IntOp.cmpi .eq (BitVec.ofNat 32 n.val) (BitVec.ofNat 32 m)) (scaleV (xExpo (l ⟨m, hm⟩)) (ix2 r n))
          (xScales l m (Nat.le_of_succ_le hm) (ix2 r n)) := by
      pointwise [xScales]
    rw [h1, select_eq, xScale_apply, xScales_apply l r n m]
    have hn := n.isLt
    by_cases h : n.val = m
    · rw [if_pos (by rw [h]), dif_pos (by omega)]
      congr 3; funext d
      congr 2
      exact h.symm
    · rw [if_neg (fun e => h (by
        have := congrArg BitVec.toNat e
        simp only [BitVec.toNat_ofNat] at this
        omega))]
      by_cases h' : n.val < m
      · rw [dif_pos h', dif_pos (by omega)]
      · rw [dif_neg h', dif_neg (by omega)]

theorem xsV_apply (l : Fin 28 → Vec Ideal S4x128 .bf16) (r : Fin 4) (n : Fin 28) :
    xsV l (ix3 r 0 n) = Pow2.kscale (top fun d : Fin 128 => l n (ix2 r d)) := by
  have h1 : xsV l (ix3 r 0 n) = xScales l 28 le_rfl (ix2 r ⟨n, by omega⟩) := by
    pointwise [xsV]
  rw [h1, xScales_apply, dif_pos n.isLt]

theorem y_apply (a b : Vec Ideal S1x4x4736 .f32) (r : Fin 4) (n : Fin 4736) :
    k0_pay3 (F := Ideal) a b (ix2 r n) = (a (ix3 0 r n) * Ideal.logistic (a (ix3 0 r n)) * b (ix3 0 r n) : EReal) := by
  pointwise [k0_pay3]

end

end Cert.KernelIdeal.Hand
-- ==== Proof.RunA.lean ====
/- The kernel's body run once, at the first point of the grid (every buffer started afresh): which pieces it stores where. -/
module

public import proofs.«01_k».proof.Proof.Cases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: the definition's epilogue walks it past the default budget
set_option maxHeartbeats 16000000 in
/-- What the kernel body's stores leave in each buffer it writes, as lists of stored pieces (last first), at
    the first point of the grid (every buffer started afresh); with the proof that from the two input blocks and the buffers' contents the body runs and leaves
    exactly these pieces. Buffers the body does not write here come back as they were. -/
noncomputable def runA (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : cond0_0 i) (hc1 : cond0_1 i) (hc2 : ¬cond0_2 i)
    (x0 : Vec F S4x3584 .bf16) (x1 : Vec F S128x2x4736 .bf16) (x2 : Vec F S4x4736 .bf16) :
    Σ' (L3 : List (View.Piece (Elt F) S4x3584 .fp8e4m3)) (L4 : List (View.Piece (Elt F) S4x1x28 .f32)) (L5 : List (View.Piece (Elt F) S2x128x4736 .fp8e4m3)) (L6 : List (View.Piece (Elt F) S28x2x148 .f32)) (LS0 : List (View.Piece (Elt F) S28x16x128 .bf16)) , { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_requant_swiglu_eq_skeleton]; unfold cc0_requant_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%dS0, %fS0, -, HS0⟩, ⟨%dS1, %fS1, -, HS1⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.RunB.lean ====
/- The kernel's body run once, at a point in the middle of a contraction: which pieces it stores where. -/
module

public import proofs.«01_k».proof.Proof.Cases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: the definition's epilogue walks it past the default budget
set_option maxHeartbeats 16000000 in
/-- What the kernel body's stores leave in each buffer it writes, as lists of stored pieces (last first), at
    a point in the middle of a contraction; with the proof that from the two input blocks and the buffers' contents the body runs and leaves
    exactly these pieces. Buffers the body does not write here come back as they were. -/
noncomputable def runB (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : ¬cond0_2 i)
    (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) (xS1 : Vec F S2x8x4736 .f32) :
    Σ' (L5 : List (View.Piece (Elt F) S2x128x4736 .fp8e4m3)) (L6 : List (View.Piece (Elt F) S28x2x148 .f32)) , { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xS0 ∗ owns (c : Thread nD τ) arg10 fullShare xS1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread x6) L6) ∗ owns (c : Thread nD τ) arg9 fullShare xS0 ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨?_, ?_, ?_, fun E K => ?run⟩
  case run =>
    simp only [cc0_requant_swiglu_eq_skeleton]; unfold cc0_requant_swiglu_skel
    simp only [k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fS0, %hfS0, HS0⟩, ⟨%fS1, %hfS1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfS0; obtain rfl := harg10.eq_unread hfS1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [HS0]
    · iexists _; isplitr; · ipureintro; exact harg9.read_unread _
      iexact HS0
    iexists _; iexact HS1

end Cert.KernelIdeal.Hand

end
-- ==== Proof.RunC.lean ====
/- The kernel's body run once, at the last point of a contraction, where `y` is stored: which pieces it stores where. -/
module

public import proofs.«01_k».proof.Proof.Cases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: the definition's epilogue walks it past the default budget
set_option maxHeartbeats 16000000 in
/-- What the kernel body's stores leave in each buffer it writes, as lists of stored pieces (last first), at
    the last point of a contraction, where `y` is stored; with the proof that from the two input blocks and the buffers' contents the body runs and leaves
    exactly these pieces. Buffers the body does not write here come back as they were. -/
noncomputable def runC (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : cond0_2 i)
    (x0 : Vec F S4x3584 .bf16) (x1 : Vec F S128x2x4736 .bf16) (x3 : Vec F S4x3584 .fp8e4m3) (x4 : Vec F S4x1x28 .f32) (x6 : Vec F S28x2x148 .f32) (xS0 : Vec F S28x16x128 .bf16) (xS1 : Vec F S2x8x4736 .f32) :
    Σ' (L2 : List (View.Piece (Elt F) S4x4736 .bf16)) (L5 : List (View.Piece (Elt F) S2x128x4736 .fp8e4m3)) (L6 : List (View.Piece (Elt F) S28x2x148 .f32)) , { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xS0 ∗ owns (c : Thread nD τ) arg10 fullShare xS1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread x6) L6) ∗ owns (c : Thread nD τ) arg9 fullShare xS0 ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_requant_swiglu_eq_skeleton]; unfold cc0_requant_swiglu_skel
    simp only [k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%f6, %hf6, H6⟩, ⟨%fS0, %hfS0, HS0⟩, ⟨%fS1, %hfS1, HS1⟩, Hk⟩
    obtain rfl := harg2.eq_unread hf0; obtain rfl := harg3.eq_unread hf1; obtain rfl := harg5.eq_unread hf3; obtain rfl := harg6.eq_unread hf4; obtain rfl := harg8.eq_unread hf6; obtain rfl := harg9.eq_unread hfS0; obtain rfl := harg10.eq_unread hfS1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [HS0]
    · iexists _; isplitr; · ipureintro; exact harg9.read_unread _
      iexact HS0
    iexists _; iexact HS1

end Cert.KernelIdeal.Hand

end
-- ==== Proof.RunD.lean ====
/- The kernel's body run once, at the first point of a later contraction, where the accumulator is started afresh: which pieces it stores where. -/
module

public import proofs.«01_k».proof.Proof.Cases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the run's proof term is large: the definition's epilogue walks it past the default budget
set_option maxHeartbeats 16000000 in
/-- What the kernel body's stores leave in each buffer it writes, as lists of stored pieces (last first), at
    the first point of a later contraction, where the accumulator is started afresh; with the proof that from the two input blocks and the buffers' contents the body runs and leaves
    exactly these pieces. Buffers the body does not write here come back as they were. -/
noncomputable def runD (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : cond0_1 i) (hc2 : ¬cond0_2 i)
    (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) :
    Σ' (L5 : List (View.Piece (Elt F) S2x128x4736 .fp8e4m3)) (L6 : List (View.Piece (Elt F) S28x2x148 .f32)) , { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xS0 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread x6) L6) ∗ owns (c : Thread nD τ) arg9 fullShare xS0 ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨?_, ?_, ?_, fun E K => ?run⟩
  case run =>
    simp only [cc0_requant_swiglu_eq_skeleton]; unfold cc0_requant_swiglu_skel
    simp only [k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fS0, %hfS0, HS0⟩, ⟨%dS1, %fS1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfS0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [HS0]
    · iexists _; isplitr; · ipureintro; exact harg9.read_unread _
      iexact HS0
    iexists _; iexact HS1

end Cert.KernelIdeal.Hand

end
-- ==== Proof.Lists.lean ====
/- The stores that each run of the body found, as the tile-by-tile lists. -/
module

public import proofs.«01_k».proof.Proof.RunA
public import proofs.«01_k».proof.Proof.Tile
public import proofs.«01_k».proof.Proof.RunB
public import proofs.«01_k».proof.Proof.RunC
public import proofs.«01_k».proof.Proof.RunD

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]
variable (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole)

/-- What a load of one row of the scales reads from a buffer at given contents. -/
abbrev ldRow1 (f : arg8.view.ty.Contents (Elt F)) : Vec F S1x1x148 .f32 :=
  View.readAt (Elt F) arg8.view (Rect.unit (s := S28x2x148) (k0_off1 i) S1x1x148.size (k0_off1_inb i)).toLoadRect f
/-- The same for the other row. -/
abbrev ldRow2 (f : arg8.view.ty.Contents (Elt F)) : Vec F S1x1x148 .f32 :=
  View.readAt (Elt F) arg8.view (Rect.unit (s := S28x2x148) (k0_off2 i) S1x1x148.size (k0_off2_inb i)).toLoadRect f
/-- What the load of this point's dequantised input reads. -/
abbrev ldXw (f : arg9.view.ty.Contents (Elt F)) : Vec F S1x16x128 .bf16 :=
  View.readAt (Elt F) arg9.view (Rect.unit (s := S28x16x128) (k0_off3 i) S1x16x128.size (k0_off3_inb i)).toLoadRect f
/-- The stores of the two rows of scales over earlier stores, up last. -/
def rowList (l : Fin 37 → Fin 4 → Vec F S32x2x128 .bf16) (f : arg8.view.ty.Contents (Elt F))
    (base : List (View.Piece (Elt F) S28x2x148 .f32)) : List (View.Piece (Elt F) S28x2x148 .f32) :=
  ⟨Rect.unit (s := S28x2x148) (k0_off2 i) S1x1x148.size (k0_off2_inb i), scaleRow (BitVec.ofNat 32 (i 0).val) 1 l (ldRow2 i arg8 f)⟩
  :: ⟨Rect.unit (s := S28x2x148) (k0_off1 i) S1x1x148.size (k0_off1_inb i), scaleRow (BitVec.ofNat 32 (i 0).val) 0 l (ldRow1 i arg8 f)⟩
  :: base
/-- The stores to the accumulator, the codes read back from what was just stored. -/
def accStores (l : Fin 37 → Fin 4 → Vec F S32x2x128 .bf16) (xw : Vec F S1x16x128 .bf16)
    (rd : List (View.Piece (Elt F) S2x8x4736 .f32) → (r : Rect S2x8x4736) → r.shape.Idx → Elt F .f32)
    (base : List (View.Piece (Elt F) S2x8x4736 .f32)) : List (View.Piece (Elt F) S2x8x4736 .f32) :=
  accList xw (fun r => arg7.view.readCov (codeList l) r.toLoadRect) (fun p t => tileScale p (l t)) rd base
/-- The accumulator set to zero. -/
def accZero : List (View.Piece (Elt F) S2x8x4736 .f32) :=
  [⟨Rect.unit (s := S2x8x4736) ![0, 0, 0] S2x8x4736.size inb_S2x8x4736_S2x8x4736_0_0_0, k0_pay327⟩]
/-- The scales set to zero. -/
def wsZero : List (View.Piece (Elt F) S28x2x148 .f32) :=
  [⟨Rect.unit (s := S28x2x148) ![0, 0, 0] S28x2x148.size inb_S28x2x148_S28x2x148_0_0_0, k0_pay326⟩]
/-- A load of the accumulator from stores that cover it. -/
abbrev rdCov (L : List (View.Piece (Elt F) S2x8x4736 .f32)) (r : Rect S2x8x4736) : r.shape.Idx → Elt F .f32 :=
  arg10.view.readCov L r.toLoadRect
/-- A load of the accumulator from its contents before the point. -/
abbrev rdOld (x : Vec F S2x8x4736 .f32) (_ : List (View.Piece (Elt F) S2x8x4736 .f32)) (r : Rect S2x8x4736) : r.shape.Idx → Elt F .f32 :=
  View.readAt (Elt F) arg10.view r.toLoadRect (harg10.unread x)

/-- The codes stored. -/
theorem runA_codes (hc0 : cond0_0 i) (hc1 : cond0_1 i) (hc2 : ¬cond0_2 i) (x0 : Vec F S4x3584 .bf16) (x1 : Vec F S128x2x4736 .bf16) (x2 : Vec F S4x4736 .bf16) :
    (runA (F := F) c i arg2 harg2 arg3 harg3 arg4 harg4 arg5 harg5 arg6 harg6 arg7 harg7 arg8 harg8 arg9 harg9 arg10 harg10 hc0 hc1 hc2 x0 x1 x2).2.2.1
      = codeList (ldW arg3 harg3 x1) := by sl_kernel_rfl

/-- The rows of scales stored. -/
theorem runA_rows (hc0 : cond0_0 i) (hc1 : cond0_1 i) (hc2 : ¬cond0_2 i) (x0 : Vec F S4x3584 .bf16) (x1 : Vec F S128x2x4736 .bf16) (x2 : Vec F S4x4736 .bf16) :
    (runA (F := F) c i arg2 harg2 arg3 harg3 arg4 harg4 arg5 harg5 arg6 harg6 arg7 harg7 arg8 harg8 arg9 harg9 arg10 harg10 hc0 hc1 hc2 x0 x1 x2).2.2.2.1
      = rowList i arg8 (ldW arg3 harg3 x1) (arg8.view.writes (Elt F) arg8.view.junk wsZero) wsZero := by sl_kernel_rfl

/-- The accumulator stored. -/
theorem runA_acc (hc0 : cond0_0 i) (hc1 : cond0_1 i) (hc2 : ¬cond0_2 i) (x0 : Vec F S4x3584 .bf16) (x1 : Vec F S128x2x4736 .bf16) (x2 : Vec F S4x4736 .bf16) :
    (runA (F := F) c i arg2 harg2 arg3 harg3 arg4 harg4 arg5 harg5 arg6 harg6 arg7 harg7 arg8 harg8 arg9 harg9 arg10 harg10 hc0 hc1 hc2 x0 x1 x2).2.2.2.2.2.1
      = accStores arg7 (ldW arg3 harg3 x1) (ldXw i arg9 (arg9.view.writes (Elt F) arg9.view.junk (xwList (ldX arg2 harg2 x0) 28 le_rfl))) (rdCov arg10) accZero := by sl_kernel_rfl

/-- The input's codes stored. -/
theorem runA_xc (hc0 : cond0_0 i) (hc1 : cond0_1 i) (hc2 : ¬cond0_2 i) (x0 : Vec F S4x3584 .bf16) (x1 : Vec F S128x2x4736 .bf16) (x2 : Vec F S4x4736 .bf16) :
    (runA (F := F) c i arg2 harg2 arg3 harg3 arg4 harg4 arg5 harg5 arg6 harg6 arg7 harg7 arg8 harg8 arg9 harg9 arg10 harg10 hc0 hc1 hc2 x0 x1 x2).1
      = xCodeList (ldX arg2 harg2 x0) 28 le_rfl := by sl_kernel_rfl

/-- The input's scales stored. -/
theorem runA_xs (hc0 : cond0_0 i) (hc1 : cond0_1 i) (hc2 : ¬cond0_2 i) (x0 : Vec F S4x3584 .bf16) (x1 : Vec F S128x2x4736 .bf16) (x2 : Vec F S4x4736 .bf16) :
    (runA (F := F) c i arg2 harg2 arg3 harg3 arg4 harg4 arg5 harg5 arg6 harg6 arg7 harg7 arg8 harg8 arg9 harg9 arg10 harg10 hc0 hc1 hc2 x0 x1 x2).2.1
      = [⟨Rect.unit (s := S4x1x28) ![0, 0, 0] S4x1x28.size inb_S4x1x28_S4x1x28_0_0_0, xsV (ldX arg2 harg2 x0)⟩] := by sl_kernel_rfl

/-- The dequantised input stored. -/
theorem runA_xw (hc0 : cond0_0 i) (hc1 : cond0_1 i) (hc2 : ¬cond0_2 i) (x0 : Vec F S4x3584 .bf16) (x1 : Vec F S128x2x4736 .bf16) (x2 : Vec F S4x4736 .bf16) :
    (runA (F := F) c i arg2 harg2 arg3 harg3 arg4 harg4 arg5 harg5 arg6 harg6 arg7 harg7 arg8 harg8 arg9 harg9 arg10 harg10 hc0 hc1 hc2 x0 x1 x2).2.2.2.2.1
      = xwList (ldX arg2 harg2 x0) 28 le_rfl := by sl_kernel_rfl

/-- The codes stored. -/
theorem runB_codes (hc0 : ¬cond0_0 i) (hc1 : ¬cond0_1 i) (hc2 : ¬cond0_2 i) (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) (xS1 : Vec F S2x8x4736 .f32) :
    (runB (F := F) c i arg2 harg2 arg3 harg3 arg4 harg4 arg5 harg5 arg6 harg6 arg7 harg7 arg8 harg8 arg9 harg9 arg10 harg10 hc0 hc1 hc2 x0 x1 x2 x3 x4 x6 xS0 xS1).1
      = codeList (ldW arg3 harg3 x1) := by sl_kernel_rfl

/-- The rows of scales stored. -/
theorem runB_rows (hc0 : ¬cond0_0 i) (hc1 : ¬cond0_1 i) (hc2 : ¬cond0_2 i) (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) (xS1 : Vec F S2x8x4736 .f32) :
    (runB (F := F) c i arg2 harg2 arg3 harg3 arg4 harg4 arg5 harg5 arg6 harg6 arg7 harg7 arg8 harg8 arg9 harg9 arg10 harg10 hc0 hc1 hc2 x0 x1 x2 x3 x4 x6 xS0 xS1).2.1
      = rowList i arg8 (ldW arg3 harg3 x1) (harg8.unread x6) [] := by sl_kernel_rfl

/-- The accumulator stored. -/
theorem runB_acc (hc0 : ¬cond0_0 i) (hc1 : ¬cond0_1 i) (hc2 : ¬cond0_2 i) (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) (xS1 : Vec F S2x8x4736 .f32) :
    (runB (F := F) c i arg2 harg2 arg3 harg3 arg4 harg4 arg5 harg5 arg6 harg6 arg7 harg7 arg8 harg8 arg9 harg9 arg10 harg10 hc0 hc1 hc2 x0 x1 x2 x3 x4 x6 xS0 xS1).2.2.1
      = accStores arg7 (ldW arg3 harg3 x1) (ldXw i arg9 (harg9.unread xS0)) (rdOld arg10 harg10 xS1) [] := by sl_kernel_rfl

/-- The codes stored. -/
theorem runC_codes (hc0 : ¬cond0_0 i) (hc1 : ¬cond0_1 i) (hc2 : cond0_2 i) (x0 : Vec F S4x3584 .bf16) (x1 : Vec F S128x2x4736 .bf16) (x3 : Vec F S4x3584 .fp8e4m3) (x4 : Vec F S4x1x28 .f32) (x6 : Vec F S28x2x148 .f32) (xS0 : Vec F S28x16x128 .bf16) (xS1 : Vec F S2x8x4736 .f32) :
    (runC (F := F) c i arg2 harg2 arg3 harg3 arg4 harg4 arg5 harg5 arg6 harg6 arg7 harg7 arg8 harg8 arg9 harg9 arg10 harg10 hc0 hc1 hc2 x0 x1 x3 x4 x6 xS0 xS1).2.1
      = codeList (ldW arg3 harg3 x1) := by sl_kernel_rfl

/-- The rows of scales stored. -/
theorem runC_rows (hc0 : ¬cond0_0 i) (hc1 : ¬cond0_1 i) (hc2 : cond0_2 i) (x0 : Vec F S4x3584 .bf16) (x1 : Vec F S128x2x4736 .bf16) (x3 : Vec F S4x3584 .fp8e4m3) (x4 : Vec F S4x1x28 .f32) (x6 : Vec F S28x2x148 .f32) (xS0 : Vec F S28x16x128 .bf16) (xS1 : Vec F S2x8x4736 .f32) :
    (runC (F := F) c i arg2 harg2 arg3 harg3 arg4 harg4 arg5 harg5 arg6 harg6 arg7 harg7 arg8 harg8 arg9 harg9 arg10 harg10 hc0 hc1 hc2 x0 x1 x3 x4 x6 xS0 xS1).2.2.1
      = rowList i arg8 (ldW arg3 harg3 x1) (harg8.unread x6) [] := by sl_kernel_rfl

/-- The accumulator stored. -/
theorem runC_acc (hc0 : ¬cond0_0 i) (hc1 : ¬cond0_1 i) (hc2 : cond0_2 i) (x0 : Vec F S4x3584 .bf16) (x1 : Vec F S128x2x4736 .bf16) (x3 : Vec F S4x3584 .fp8e4m3) (x4 : Vec F S4x1x28 .f32) (x6 : Vec F S28x2x148 .f32) (xS0 : Vec F S28x16x128 .bf16) (xS1 : Vec F S2x8x4736 .f32) :
    (runC (F := F) c i arg2 harg2 arg3 harg3 arg4 harg4 arg5 harg5 arg6 harg6 arg7 harg7 arg8 harg8 arg9 harg9 arg10 harg10 hc0 hc1 hc2 x0 x1 x3 x4 x6 xS0 xS1).2.2.2.1
      = accStores arg7 (ldW arg3 harg3 x1) (ldXw i arg9 (harg9.unread xS0)) (rdOld arg10 harg10 xS1) [] := by sl_kernel_rfl

/-- The result stored. -/
theorem runC_y (hc0 : ¬cond0_0 i) (hc1 : ¬cond0_1 i) (hc2 : cond0_2 i) (x0 : Vec F S4x3584 .bf16) (x1 : Vec F S128x2x4736 .bf16) (x3 : Vec F S4x3584 .fp8e4m3) (x4 : Vec F S4x1x28 .f32) (x6 : Vec F S28x2x148 .f32) (xS0 : Vec F S28x16x128 .bf16) (xS1 : Vec F S2x8x4736 .f32) :
    (runC (F := F) c i arg2 harg2 arg3 harg3 arg4 harg4 arg5 harg5 arg6 harg6 arg7 harg7 arg8 harg8 arg9 harg9 arg10 harg10 hc0 hc1 hc2 x0 x1 x3 x4 x6 xS0 xS1).1
      = [⟨Rect.unit (s := S4x4736) ![0, 0] S4x4736.size inb_S4x4736_S4x4736_0_0, k0_pay3 (arg10.view.readCov (accStores arg7 (ldW arg3 harg3 x1) (ldXw i arg9 (harg9.unread xS0)) (rdOld arg10 harg10 xS1) []) (Rect.unit (s := S2x8x4736) ![0, 0, 0] S1x4x4736.size inb_S2x8x4736_S1x4x4736_0_0_0).toLoadRect) (arg10.view.readCov (accStores arg7 (ldW arg3 harg3 x1) (ldXw i arg9 (harg9.unread xS0)) (rdOld arg10 harg10 xS1) []) (Rect.unit (s := S2x8x4736) ![1, 0, 0] S1x4x4736.size inb_S2x8x4736_S1x4x4736_1_0_0).toLoadRect)⟩] := by sl_kernel_rfl

/-- The codes stored. -/
theorem runD_codes (hc0 : ¬cond0_0 i) (hc1 : cond0_1 i) (hc2 : ¬cond0_2 i) (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) :
    (runD (F := F) c i arg2 harg2 arg3 harg3 arg4 harg4 arg5 harg5 arg6 harg6 arg7 harg7 arg8 harg8 arg9 harg9 arg10 harg10 hc0 hc1 hc2 x0 x1 x2 x3 x4 x6 xS0).1
      = codeList (ldW arg3 harg3 x1) := by sl_kernel_rfl

/-- The rows of scales stored. -/
theorem runD_rows (hc0 : ¬cond0_0 i) (hc1 : cond0_1 i) (hc2 : ¬cond0_2 i) (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) :
    (runD (F := F) c i arg2 harg2 arg3 harg3 arg4 harg4 arg5 harg5 arg6 harg6 arg7 harg7 arg8 harg8 arg9 harg9 arg10 harg10 hc0 hc1 hc2 x0 x1 x2 x3 x4 x6 xS0).2.1
      = rowList i arg8 (ldW arg3 harg3 x1) (harg8.unread x6) [] := by sl_kernel_rfl

/-- The accumulator stored. -/
theorem runD_acc (hc0 : ¬cond0_0 i) (hc1 : cond0_1 i) (hc2 : ¬cond0_2 i) (x0 : Vec F S4x3584 .bf16) (x1 : Vec F S128x2x4736 .bf16) (x2 : Vec F S4x4736 .bf16) (x3 : Vec F S4x3584 .fp8e4m3) (x4 : Vec F S4x1x28 .f32) (x6 : Vec F S28x2x148 .f32) (xS0 : Vec F S28x16x128 .bf16) :
    (runD (F := F) c i arg2 harg2 arg3 harg3 arg4 harg4 arg5 harg5 arg6 harg6 arg7 harg7 arg8 harg8 arg9 harg9 arg10 harg10 hc0 hc1 hc2 x0 x1 x2 x3 x4 x6 xS0).2.2.1
      = accStores arg7 (ldW arg3 harg3 x1) (ldXw i arg9 (harg9.unread xS0)) (rdCov arg10) accZero := by sl_kernel_rfl

end Cert.KernelIdeal.Hand

end
-- ==== Proof.Content.lean ====
module

public import Idealize.ShloMosaic.Lib.WholeRead
public import Idealize.ShloMosaic.Lib.WritesUnit
public import proofs.«01_k».proof.Proof.AccRead
public import proofs.«01_k».proof.Proof.Lists

@[expose] public section

set_option maxRecDepth 65536

/-! # What a point's stores leave, as functions of the blocks

The codes of a weight block, the input's codes, scales and dequantised blocks, entry by entry; and that the
stores of a point leave exactly these. -/

namespace Cert.KernelIdeal.Hand

open Idealize.ShloMosaic Cert.KernelIdeal.Gen

noncomputable section

/-! ## The functions -/

/-- Tile `b` of half `h` of a weight block. -/
def tileAt (x1 : Vec Ideal S128x2x4736 .bf16) (h : Fin 2) (b : Fin 37) : Fin 128 × Fin 128 → EReal :=
  fun i => x1 (ix3 i.1 h ⟨128 * b.val + i.2.val, by omega⟩)

/-- The scale of tile `b` of half `h`. -/
def tsc (x1 : Vec Ideal S128x2x4736 .bf16) (h : Fin 2) (b : Fin 37) : EReal := Pow2.kscale (top (tileAt x1 h b))

/-- The code of one entry of a weight block. -/
def wcAt (x1 : Vec Ideal S128x2x4736 .bf16) (h : Fin 2) (d : Fin 128) (n : Fin 4736) : EReal :=
  Spec.clip (x1 (ix3 d h n) * Pow2.kinv (top (tileAt x1 h ⟨n.val / 128, by omega⟩)))

/-- The codes of a weight block. -/
def wcF (x1 : Vec Ideal S128x2x4736 .bf16) : Vec Ideal S2x128x4736 .fp8e4m3 := fun y => wcAt x1 (y 0) (y 1) (y 2)

/-- Block `k` of row `r` of the input. -/
def xBlk (x0 : Vec Ideal S4x3584 .bf16) (r : Fin 4) (k : Fin 28) : Fin 128 → EReal :=
  fun d => x0 (ix2 r ⟨128 * k.val + d.val, by omega⟩)

/-- The code of one entry of the input. -/
def xcAt (x0 : Vec Ideal S4x3584 .bf16) (r : Fin 4) (n : Fin 3584) : EReal :=
  Spec.clip (x0 (ix2 r n) * Pow2.kinv (top (xBlk x0 r ⟨n.val / 128, by omega⟩)))

/-- The codes of the input. -/
def xcF (x0 : Vec Ideal S4x3584 .bf16) : Vec Ideal S4x3584 .fp8e4m3 := fun y => xcAt x0 (y 0) (y 1)

/-- The scales of the input. -/
def xsF (x0 : Vec Ideal S4x3584 .bf16) : Vec Ideal S4x1x28 .f32 := fun y => Pow2.kscale (top (xBlk x0 (y 0) (y 2)))

/-- The dequantised input, under rows of zeros. -/
def xwAt (x0 : Vec Ideal S4x3584 .bf16) (k : Fin 28) (r : Fin 16) (d : Fin 128) : EReal :=
  if h : r.val < 4 then xcAt x0 ⟨r, h⟩ ⟨128 * k.val + d.val, by omega⟩ * Pow2.kscale (top (xBlk x0 ⟨r, h⟩ k)) else 0

/-- The dequantised input as the scratch buffer holds it. -/
def xwF (x0 : Vec Ideal S4x3584 .bf16) : Vec Ideal S28x16x128 .bf16 := fun y => xwAt x0 (y 0) (y 1) (y 2)

/-! ## Loads -/

theorem ldW_apply (arg3 : Memref sig .tc .vmem S128x2x4736 .bf16) (harg3 : arg3.IsWhole) (x1 : Vec Ideal S128x2x4736 .bf16)
    (t : Fin 37) (q : Fin 4) (r : Fin 32) (h : Fin 2) (n : Fin 128) :
    ldW arg3 harg3 x1 t q (ix3 r h n) = x1 (ix3 ⟨32 * q.val + r.val, by omega⟩ h ⟨128 * t.val + n.val, by omega⟩) := by
  refine (Memref.IsWhole.readAt_unread harg3 x1 _ _).trans (congrArg x1 ?_)
  exact Rect.emb_eq_of_coords _ _ _ fun a => match a with
    | ⟨0, _⟩ => by show 32 * q.val + r.val = 32 * q.val + 1 * r.val; omega
    | ⟨1, _⟩ => by show h.val = 0 + 1 * h.val; omega
    | ⟨2, _⟩ => by show 128 * t.val + n.val = 128 * t.val + 1 * n.val; omega

theorem ldX_apply (arg2 : Memref sig .tc .vmem S4x3584 .bf16) (harg2 : arg2.IsWhole) (x0 : Vec Ideal S4x3584 .bf16)
    (k : Fin 28) (r : Fin 4) (n : Fin 128) :
    ldX arg2 harg2 x0 k (ix2 r n) = xBlk x0 r k n := by
  refine (Memref.IsWhole.readAt_unread harg2 x0 _ _).trans (congrArg x0 ?_)
  exact Rect.emb_eq_of_coords _ _ _ fun a => match a with
    | ⟨0, _⟩ => by show r.val = 0 + 1 * r.val; omega
    | ⟨1, _⟩ => by show 128 * k.val + n.val = 128 * k.val + 1 * n.val; omega

theorem tileOf_ldW (arg3 : Memref sig .tc .vmem S128x2x4736 .bf16) (harg3 : arg3.IsWhole) (x1 : Vec Ideal S128x2x4736 .bf16)
    (t : Fin 37) (h : Fin 2) : tileOf (ldW arg3 harg3 x1 t) h = tileAt x1 h t := by
  funext i
  unfold tileOf tileAt
  rw [ldW_apply]
  congr 2
  apply Fin.ext; simp; omega

/-! ## The codes of a weight block -/

section Codes

variable (arg3 : Memref sig .tc .vmem S128x2x4736 .bf16) (harg3 : arg3.IsWhole) (x1 : Vec Ideal S128x2x4736 .bf16)

theorem emb_st (h : Fin 2) (t : Fin 37) (q : Fin 4) (r : Fin 32) (n : Fin 128) :
    (Rect.unit (s := S2x128x4736) ![h.val, 32 * q.val, 128 * t.val] S1x32x128.size (inb_st h t q)).emb (ix3 0 r n)
      = ix3 h ⟨32 * q.val + r.val, by omega⟩ ⟨128 * t.val + n.val, by omega⟩ :=
  Rect.emb_eq_of_coords _ _ _ fun a => match a with
    | ⟨0, _⟩ => by show h.val = h.val + 1 * 0; omega
    | ⟨1, _⟩ => by show 32 * q.val + r.val = 32 * q.val + 1 * r.val; omega
    | ⟨2, _⟩ => by show 128 * t.val + n.val = 128 * t.val + 1 * n.val; omega

theorem codePieces_apply (t : Fin 37) (q : Fin 4) (p : View.Piece (Elt Ideal) S2x128x4736 .fp8e4m3)
    (hp : p ∈ codePieces (ldW arg3 harg3 x1) t q) (x : p.1.shape.Idx) : p.2 x = wcF x1 (p.1.emb x) := by
  have key : ∀ (h : Fin 2) (r : Fin 32) (n : Fin 128),
      Spec.clip (ldW arg3 harg3 x1 t q (ix3 r h n) * Pow2.kinv (top (tileOf (ldW arg3 harg3 x1 t) h)))
        = wcF x1 (ix3 h ⟨32 * q.val + r.val, by omega⟩ ⟨128 * t.val + n.val, by omega⟩) := by
    intro h r n
    rw [ldW_apply, tileOf_ldW]
    show _ = wcAt x1 h _ _
    unfold wcAt
    congr 5
    apply Fin.ext; simp; omega
  rcases List.mem_cons.1 hp with rfl | hp
  · obtain ⟨a, r, n, rfl⟩ : ∃ (a : Fin 1) (r : Fin 32) (n : Fin 128), x = ix3 a r n := ⟨x 0, x 1, x 2, eq_ix3 x⟩
    obtain rfl : a = 0 := Subsingleton.elim _ _
    refine (codesUp_apply _ _ r n).trans ?_
    rw [tileInv_apply]
    refine Eq.trans ?_ ((key 1 r n).trans (congrArg (wcF x1) (emb_st 1 t q r n).symm))
    congr 5
    apply Fin.ext; simp; try omega
  · obtain rfl := List.mem_singleton.1 hp
    obtain ⟨a, r, n, rfl⟩ : ∃ (a : Fin 1) (r : Fin 32) (n : Fin 128), x = ix3 a r n := ⟨x 0, x 1, x 2, eq_ix3 x⟩
    obtain rfl : a = 0 := Subsingleton.elim _ _
    refine (codesGate_apply _ _ r n).trans ?_
    rw [tileInv_apply]
    refine Eq.trans ?_ ((key 0 r n).trans (congrArg (wcF x1) (emb_st 0 t q r n).symm))
    congr 5
    apply Fin.ext; simp

theorem mem_codeList (l : Fin 37 → Fin 4 → Vec Ideal S32x2x128 .bf16) (p : View.Piece (Elt Ideal) S2x128x4736 .fp8e4m3) :
    p ∈ codeList l ↔ ∃ t q, p ∈ codePieces l t q := by
  unfold codeList
  rw [List.mem_flatMap]
  constructor
  · rintro ⟨t, -, h⟩
    simp only [List.mem_append] at h
    rcases h with h | h | h | h
    exacts [⟨t, 3, h⟩, ⟨t, 2, h⟩, ⟨t, 1, h⟩, ⟨t, 0, h⟩]
  · rintro ⟨t, q, h⟩
    refine ⟨t, mem_tilesDown 37 _ t t.isLt, ?_⟩
    simp only [List.mem_append]
    match q, h with
    | 0, h => exact .inr (.inr (.inr h))
    | 1, h => exact .inr (.inr (.inl h))
    | 2, h => exact .inr (.inl h)
    | 3, h => exact .inl h

theorem codeList_apply (p : View.Piece (Elt Ideal) S2x128x4736 .fp8e4m3) (hp : p ∈ codeList (ldW arg3 harg3 x1)) (x : p.1.shape.Idx) :
    p.2 x = wcF x1 (p.1.emb x) := by
  obtain ⟨t, q, h⟩ := (mem_codeList _ p).1 hp
  exact codePieces_apply arg3 harg3 x1 t q p h x

theorem codeList_cover (l : Fin 37 → Fin 4 → Vec Ideal S32x2x128 .bf16) (y : S2x128x4736.Idx) : ∃ p ∈ codeList l, y ∈ p.1.set := by
  obtain ⟨h, d, n, rfl⟩ : ∃ (h : Fin 2) (d : Fin 128) (n : Fin 4736), y = ix3 h d n := ⟨y 0, y 1, y 2, eq_ix3 y⟩
  have hm : ∀ h : Fin 2, ix3 h d n ∈ (Rect.unit (s := S2x128x4736) ![h.val, 32 * (⟨d.val / 32, by omega⟩ : Fin 4).val,
      128 * (⟨n.val / 128, by omega⟩ : Fin 37).val] S1x32x128.size (inb_st h _ _)).set := by
    intro h
    have e := emb_st h ⟨n.val / 128, by omega⟩ ⟨d.val / 32, by omega⟩ ⟨d.val % 32, by omega⟩ ⟨n.val % 128, by omega⟩
    have e2 : (ix3 h ⟨32 * (⟨d.val / 32, by omega⟩ : Fin 4).val + (⟨d.val % 32, by omega⟩ : Fin 32).val, by simp; omega⟩
        ⟨128 * (⟨n.val / 128, by omega⟩ : Fin 37).val + (⟨n.val % 128, by omega⟩ : Fin 128).val, by simp; omega⟩ : S2x128x4736.Idx) = ix3 h d n := by
      congr 1 <;> apply Fin.ext <;> simp <;> omega
    rw [← e2, ← e]
    exact LoadRect.idx_mem _ _
  match h with
  | 0 => exact ⟨_, (mem_codeList l _).2 ⟨_, _, List.mem_cons_of_mem _ List.mem_cons_self⟩, hm 0⟩
  | 1 => exact ⟨_, (mem_codeList l _).2 ⟨_, _, List.mem_cons_self⟩, hm 1⟩

/-- The stored codes are the codes of the block. -/
theorem read_codeList (arg7 : Memref sig .tc .vmem S2x128x4736 .fp8e4m3) (f : arg7.view.ty.Contents (Elt Ideal)) :
    arg7.view.read (Elt Ideal) (arg7.view.writes (Elt Ideal) f (codeList (ldW arg3 harg3 x1))) = wcF x1 :=
  funext fun y => View.read_writes_apply_of_pieces _ _ (wcF x1) _ (codeList_apply arg3 harg3 x1) y (codeList_cover _ y)

/-- The codes read back are the codes of the block. -/
theorem readCov_codeList (arg7 : Memref sig .tc .vmem S2x128x4736 .fp8e4m3) (r : Rect S2x128x4736) (x : r.shape.Idx) :
    arg7.view.readCov (codeList (ldW arg3 harg3 x1)) r.toLoadRect x = wcF x1 (r.emb x) := by
  rw [View.readCov_eq_canon']
  exact View.canon_apply_of_pieces (wcF x1) _ (codeList_apply arg3 harg3 x1) _ (codeList_cover _ _)

end Codes

/-! ## The input's codes, scales and dequantised blocks -/

section Input

variable (arg2 : Memref sig .tc .vmem S4x3584 .bf16) (harg2 : arg2.IsWhole) (x0 : Vec Ideal S4x3584 .bf16)

theorem emb_xst (k : Fin 28) (r : Fin 4) (n : Fin 128) :
    (Rect.unit (s := S4x3584) ![0, 128 * k.val] S4x128.size (inb_x k)).emb (ix2 r n) = ix2 r ⟨128 * k.val + n.val, by omega⟩ :=
  Rect.emb_eq_of_coords _ _ _ fun a => match a with
    | ⟨0, _⟩ => by show r.val = 0 + 1 * r.val; omega
    | ⟨1, _⟩ => by show 128 * k.val + n.val = 128 * k.val + 1 * n.val; omega

theorem emb_xwst (k : Fin 28) (r : Fin 16) (n : Fin 128) :
    (Rect.unit (s := S28x16x128) ![k.val, 0, 0] S1x16x128.size (inb_xw k)).emb (ix3 0 r n) = ix3 k r n :=
  Rect.emb_eq_of_coords _ _ _ fun a => match a with
    | ⟨0, _⟩ => by show k.val = k.val + 1 * 0; omega
    | ⟨1, _⟩ => by show r.val = 0 + 1 * r.val; omega
    | ⟨2, _⟩ => by show n.val = 0 + 1 * n.val; omega

theorem top_ldX (k : Fin 28) (r : Fin 4) : (top fun d : Fin 128 => ldX arg2 harg2 x0 k (ix2 r d)) = top (xBlk x0 r k) :=
  congrArg top (funext fun d => ldX_apply arg2 harg2 x0 k r d)

theorem xCodes_ldX (k : Fin 28) (r : Fin 4) (n : Fin 128) :
    xCodes (ldX arg2 harg2 x0 k) (ix2 r n) = xcAt x0 r ⟨128 * k.val + n.val, by omega⟩ := by
  rw [xCodes_apply, top_ldX, ldX_apply]
  unfold xcAt
  congr 5
  apply Fin.ext; simp; omega

theorem xCodeList_apply (l : Fin 28 → Vec Ideal S4x128 .bf16) : ∀ (m : ℕ) (hm : m ≤ 28) (p : View.Piece (Elt Ideal) S4x3584 .fp8e4m3),
    p ∈ xCodeList l m hm → ∃ k : Fin 28, p = ⟨Rect.unit (s := S4x3584) ![0, 128 * k.val] S4x128.size (inb_x k), xCodes (l k)⟩
  | 0, _, _, h => absurd h List.not_mem_nil
  | m + 1, hm, p, h => by
    rcases List.mem_cons.1 h with rfl | h
    · exact ⟨⟨m, hm⟩, rfl⟩
    · exact xCodeList_apply l m _ p h

theorem mem_xCodeList (l : Fin 28 → Vec Ideal S4x128 .bf16) (k : Fin 28) : ∀ (m : ℕ) (hm : m ≤ 28), k.val < m →
    (⟨Rect.unit (s := S4x3584) ![0, 128 * k.val] S4x128.size (inb_x k), xCodes (l k)⟩ : View.Piece (Elt Ideal) S4x3584 .fp8e4m3) ∈ xCodeList l m hm
  | 0, _, h => absurd h (Nat.not_lt_zero _)
  | m + 1, hm, h => by
    rcases Nat.lt_succ_iff_lt_or_eq.1 h with h1 | h1
    · exact List.mem_cons_of_mem _ (mem_xCodeList l k m _ h1)
    · subst h1; exact List.mem_cons_self

/-- The stored codes are the codes of the input. -/
theorem read_xCodeList (arg5 : Memref sig .tc .vmem S4x3584 .fp8e4m3) (f : arg5.view.ty.Contents (Elt Ideal)) :
    arg5.view.read (Elt Ideal) (arg5.view.writes (Elt Ideal) f (xCodeList (ldX arg2 harg2 x0) 28 le_rfl)) = xcF x0 := by
  funext y
  refine View.read_writes_apply_of_pieces _ _ (xcF x0) _ (fun p hp x => ?_) y ?_
  · obtain ⟨k, rfl⟩ := xCodeList_apply _ _ _ p hp
    obtain ⟨r, n, rfl⟩ : ∃ (r : Fin 4) (n : Fin 128), x = ix2 r n := ⟨x 0, x 1, eq_ix2 x⟩
    exact (xCodes_ldX arg2 harg2 x0 k r n).trans (congrArg (xcF x0) (emb_xst k r n).symm)
  · obtain ⟨r, n, rfl⟩ : ∃ (r : Fin 4) (n : Fin 3584), y = ix2 r n := ⟨y 0, y 1, eq_ix2 y⟩
    refine ⟨_, mem_xCodeList _ ⟨n.val / 128, by omega⟩ 28 le_rfl (by simp; omega), ?_⟩
    have e := emb_xst ⟨n.val / 128, by omega⟩ r ⟨n.val % 128, by omega⟩
    rw [show (ix2 r ⟨128 * (⟨n.val / 128, by omega⟩ : Fin 28).val + (⟨n.val % 128, by omega⟩ : Fin 128).val, by simp; omega⟩ : S4x3584.Idx) = ix2 r n by
      congr 1; apply Fin.ext; simp; omega] at e
    rw [← e]
    exact LoadRect.idx_mem _ _

/-- The stored scales are the scales of the input. -/
theorem xsV_ldX : xsV (ldX arg2 harg2 x0) = xsF x0 := by
  funext y
  obtain ⟨r, a, n, rfl⟩ : ∃ (r : Fin 4) (a : Fin 1) (n : Fin 28), y = ix3 r a n := ⟨y 0, y 1, y 2, eq_ix3 y⟩
  obtain rfl : a = 0 := Subsingleton.elim _ _
  rw [xsV_apply, top_ldX]
  rfl

theorem xwList_apply (l : Fin 28 → Vec Ideal S4x128 .bf16) : ∀ (m : ℕ) (hm : m ≤ 28) (p : View.Piece (Elt Ideal) S28x16x128 .bf16),
    p ∈ xwList l m hm → ∃ k : Fin 28, p = ⟨Rect.unit (s := S28x16x128) ![k.val, 0, 0] S1x16x128.size (inb_xw k), xwV (l k)⟩
  | 0, _, _, h => absurd h List.not_mem_nil
  | m + 1, hm, p, h => by
    rcases List.mem_cons.1 h with rfl | h
    · exact ⟨⟨m, hm⟩, rfl⟩
    · exact xwList_apply l m _ p h

theorem mem_xwList (l : Fin 28 → Vec Ideal S4x128 .bf16) (k : Fin 28) : ∀ (m : ℕ) (hm : m ≤ 28), k.val < m →
    (⟨Rect.unit (s := S28x16x128) ![k.val, 0, 0] S1x16x128.size (inb_xw k), xwV (l k)⟩ : View.Piece (Elt Ideal) S28x16x128 .bf16) ∈ xwList l m hm
  | 0, _, h => absurd h (Nat.not_lt_zero _)
  | m + 1, hm, h => by
    rcases Nat.lt_succ_iff_lt_or_eq.1 h with h1 | h1
    · exact List.mem_cons_of_mem _ (mem_xwList l k m _ h1)
    · subst h1; exact List.mem_cons_self

/-- The stored blocks are the dequantised input. -/
theorem read_xwList (arg9 : Memref sig .tc .vmem S28x16x128 .bf16) (f : arg9.view.ty.Contents (Elt Ideal)) :
    arg9.view.read (Elt Ideal) (arg9.view.writes (Elt Ideal) f (xwList (ldX arg2 harg2 x0) 28 le_rfl)) = xwF x0 := by
  funext y
  refine View.read_writes_apply_of_pieces _ _ (xwF x0) _ (fun p hp x => ?_) y ?_
  · obtain ⟨k, rfl⟩ := xwList_apply _ _ _ p hp
    obtain ⟨a, r, n, rfl⟩ : ∃ (a : Fin 1) (r : Fin 16) (n : Fin 128), x = ix3 a r n := ⟨x 0, x 1, x 2, eq_ix3 x⟩
    obtain rfl : a = 0 := Subsingleton.elim _ _
    refine Eq.trans ?_ (congrArg (xwF x0) (emb_xwst k r n).symm)
    refine (xwV_apply _ r n).trans ?_
    show _ = xwAt x0 k r n
    unfold xwAt
    by_cases h : r.val < 4
    · rw [dif_pos h, dif_pos h, top_ldX, xCodes_ldX]
    · rw [dif_neg h, dif_neg h]
  · obtain ⟨k, r, n, rfl⟩ : ∃ (k : Fin 28) (r : Fin 16) (n : Fin 128), y = ix3 k r n := ⟨y 0, y 1, y 2, eq_ix3 y⟩
    refine ⟨_, mem_xwList _ k 28 le_rfl k.isLt, ?_⟩
    rw [← emb_xwst k r n]
    exact LoadRect.idx_mem _ _

end Input

end

end Cert.KernelIdeal.Hand
-- ==== Proof.RowContent.lean ====
module

public import proofs.«01_k».proof.Proof.Content

@[expose] public section

set_option maxRecDepth 65536

/-! # The rows of scales that a point stores -/

namespace Cert.KernelIdeal.Hand

open Idealize.ShloMosaic Cert.KernelIdeal.Gen

noncomputable section

/-- One entry of the scales after point `(j, k)`. -/
def wsAt (j k : ℕ) (x1 : Vec Ideal S128x2x4736 .bf16) (prev : Vec Ideal S28x2x148 .f32) (k' : Fin 28) (h : Fin 2) (n : Fin 148) : EReal :=
  if k'.val = k ∧ n.val / 37 = j then tsc x1 h ⟨n.val % 37, by omega⟩ else prev (ix3 k' h n)

/-- The scales after point `(j, k)`: the block's own entries, the others as before. -/
def wsStep (j k : ℕ) (x1 : Vec Ideal S128x2x4736 .bf16) (prev : Vec Ideal S28x2x148 .f32) : Vec Ideal S28x2x148 .f32 :=
  fun y => wsAt j k x1 prev (y 0) (y 1) (y 2)

variable (i : grid0.Coords)

theorem i0_lt : (i 0).val < 4 := (i 0).isLt
theorem i1_lt : (i 1).val < 28 := (i 1).isLt

theorem word_i1 : (BitVec.ofNat 32 (i 1).val).toNat = (i 1).val := by
  have := i1_lt i
  rw [BitVec.toNat_ofNat]; omega

theorem hoff1 : k0_off1 i = ![(i 1).val, 0, 0] := by
  show ![(BitVec.ofNat 32 (i 1).val).toNat, 0, 0] = _
  rw [word_i1]
theorem hoff2 : k0_off2 i = ![(i 1).val, 1, 0] := by
  show ![(BitVec.ofNat 32 (i 1).val).toNat, 1, 0] = _
  rw [word_i1]
theorem hoff3 : k0_off3 i = ![(i 1).val, 0, 0] := by
  show ![(BitVec.ofNat 32 (i 1).val).toNat, 0, 0] = _
  rw [word_i1]

variable (arg8 : Memref sig .tc .vmem S28x2x148 .f32)

theorem ldRow1_apply (f : arg8.view.ty.Contents (Elt Ideal)) (n : Fin 148) :
    ldRow1 i arg8 f (ix3 0 0 n) = arg8.view.read (Elt Ideal) f (ix3 ⟨(i 1).val, i1_lt i⟩ 0 n) := by
  refine congrArg (arg8.view.read (Elt Ideal) f) ?_
  exact Rect.emb_eq_of_coords _ _ _ fun a => match a with
    | ⟨0, _⟩ => by show (i 1).val = (BitVec.ofNat 32 (i 1).val).toNat + 1 * 0; rw [word_i1]; rfl
    | ⟨1, _⟩ => by show 0 = 0 + 1 * 0; rfl
    | ⟨2, _⟩ => by show n.val = 0 + 1 * n.val; omega

theorem ldRow2_apply (f : arg8.view.ty.Contents (Elt Ideal)) (n : Fin 148) :
    ldRow2 i arg8 f (ix3 0 0 n) = arg8.view.read (Elt Ideal) f (ix3 ⟨(i 1).val, i1_lt i⟩ 1 n) := by
  refine congrArg (arg8.view.read (Elt Ideal) f) ?_
  exact Rect.emb_eq_of_coords _ _ _ fun a => match a with
    | ⟨0, _⟩ => by show (i 1).val = (BitVec.ofNat 32 (i 1).val).toNat + 1 * 0; rw [word_i1]; rfl
    | ⟨1, _⟩ => by show 1 = 1 + 1 * 0; rfl
    | ⟨2, _⟩ => by show n.val = 0 + 1 * n.val; omega

/-- The stored rows leave the scales with the block's own entries put in. -/
theorem read_rowList (arg3 : Memref sig .tc .vmem S128x2x4736 .bf16) (harg3 : arg3.IsWhole) (x1 : Vec Ideal S128x2x4736 .bf16)
    (f f' : arg8.view.ty.Contents (Elt Ideal)) (base : List (View.Piece (Elt Ideal) S28x2x148 .f32)) (prev : Vec Ideal S28x2x148 .f32)
    (hb : ∀ y, arg8.view.read (Elt Ideal) (arg8.view.writes (Elt Ideal) f base) y = prev y)
    (hf : ∀ y, arg8.view.read (Elt Ideal) f' y = prev y) :
    arg8.view.read (Elt Ideal) (arg8.view.writes (Elt Ideal) f (rowList i arg8 (ldW arg3 harg3 x1) f' base))
      = wsStep (i 0).val (i 1).val x1 prev := by
  funext y
  obtain ⟨k', h, n, rfl⟩ : ∃ (k' : Fin 28) (h : Fin 2) (n : Fin 148), y = ix3 k' h n := ⟨y 0, y 1, y 2, eq_ix3 y⟩
  show _ = wsAt _ _ _ _ k' h n
  unfold rowList
  by_cases hk : k'.val = (i 1).val
  · have hk' : k' = ⟨(i 1).val, i1_lt i⟩ := Fin.ext hk
    have hrow : ∀ (h : Fin 2) (pr : Vec Ideal S1x1x148 .f32), pr (ix3 0 0 n) = prev (ix3 k' h n) →
        scaleRow (BitVec.ofNat 32 (i 0).val) h (ldW arg3 harg3 x1) pr (ix3 0 0 n) = wsAt (i 0).val (i 1).val x1 prev k' h n := by
      intro h pr hpr
      rw [scaleRow_apply _ (i0_lt i), tileOf_ldW, hpr]
      unfold wsAt tsc
      by_cases hn : n.val / 37 = (i 0).val
      · rw [if_pos hn, if_pos ⟨hk, hn⟩]
      · rw [if_neg hn, if_neg (fun h => hn h.2)]
    match h with
    | 1 =>
      refine (View.read_writes_cons_unit_of_mem _ _ _ _ _ (ix3 k' 1 n) (ix3 0 0 n) (hoff2 i) (fun a => ?_)).trans ?_
      · match a with
        | ⟨0, _⟩ => show k'.val = (i 1).val + 0; omega
        | ⟨1, _⟩ => show 1 = 1 + 0; rfl
        | ⟨2, _⟩ => show n.val = 0 + n.val; omega
      · exact hrow 1 _ ((ldRow2_apply i arg8 f' n).trans ((hf _).trans (by rw [hk'])))
    | 0 =>
      refine (View.read_writes_cons_unit_of_not_mem _ _ _ _ _ (ix3 k' 0 n) (hoff2 i) 1 (.inl (by show 0 < 1; omega))).trans ?_
      refine (View.read_writes_cons_unit_of_mem _ _ _ _ _ (ix3 k' 0 n) (ix3 0 0 n) (hoff1 i) (fun a => ?_)).trans ?_
      · match a with
        | ⟨0, _⟩ => show k'.val = (i 1).val + 0; omega
        | ⟨1, _⟩ => show 0 = 0 + 0; rfl
        | ⟨2, _⟩ => show n.val = 0 + n.val; omega
      · exact hrow 0 _ ((ldRow1_apply i arg8 f' n).trans ((hf _).trans (by rw [hk'])))
  · have hm : k'.val < (i 1).val ∨ (i 1).val + 1 ≤ k'.val := by omega
    refine (View.read_writes_cons_unit_of_not_mem _ _ _ _ _ (ix3 k' h n) (hoff2 i) 0 ?_).trans ?_
    · exact hm
    refine (View.read_writes_cons_unit_of_not_mem _ _ _ _ _ (ix3 k' h n) (hoff1 i) 0 ?_).trans ?_
    · exact hm
    rw [hb]
    unfold wsAt
    rw [if_neg (fun h => hk h.1)]

/-- Zeros everywhere. -/
theorem read_wsZero (f : arg8.view.ty.Contents (Elt Ideal)) (y : S28x2x148.Idx) :
    arg8.view.read (Elt Ideal) (arg8.view.writes (Elt Ideal) f wsZero) y = (0 : EReal) := by
  obtain ⟨k', h, n, rfl⟩ : ∃ (k' : Fin 28) (h : Fin 2) (n : Fin 148), y = ix3 k' h n := ⟨y 0, y 1, y 2, eq_ix3 y⟩
  refine (View.read_writes_cons_unit_of_mem _ _ _ _ _ (ix3 k' h n) (ix3 k' h n) rfl (fun a => ?_)).trans ?_
  · match a with
    | ⟨0, _⟩ => show k'.val = 0 + k'.val; omega
    | ⟨1, _⟩ => show h.val = 0 + h.val; omega
    | ⟨2, _⟩ => show n.val = 0 + n.val; omega
  · pointwise [k0_pay326]

end

end Cert.KernelIdeal.Hand
-- ==== Proof.AccContent.lean ====
module

public import proofs.«01_k».proof.Proof.RowContent

@[expose] public section

set_option maxRecDepth 65536

/-! # The accumulated product after a point -/

namespace Cert.KernelIdeal.Hand

open Idealize.ShloMosaic Cert.KernelIdeal.Gen

noncomputable section

/-- One entry of the accumulator after a point: what was there plus the block's product. -/
def accAt (xw : Fin 16 → Fin 128 → EReal) (x1 : Vec Ideal S128x2x4736 .bf16) (P : Vec Ideal S2x8x4736 .f32) (h : Fin 2) (r : Fin 8) (n : Fin 4736) : EReal :=
  P (ix3 h r n) + (∑ d : Fin 128, xw ⟨r, by omega⟩ d * wcAt x1 h d n) * tsc x1 h ⟨n.val / 128, by omega⟩

/-- The accumulator after a point. -/
def accStep (xw : Fin 16 → Fin 128 → EReal) (x1 : Vec Ideal S128x2x4736 .bf16) (P : Vec Ideal S2x8x4736 .f32) : Vec Ideal S2x8x4736 .f32 :=
  fun y => accAt xw x1 P (y 0) (y 1) (y 2)

theorem emb_acc2 (h : Fin 2) (p : Fin 18) (r : Fin 8) (n : Fin 256) :
    (rAcc2 h p).emb (ix3 0 r n) = ix3 h r ⟨256 * p.val + n.val, by omega⟩ :=
  Rect.emb_eq_of_coords _ _ _ fun a => match a with
    | ⟨0, _⟩ => by show h.val = h.val + 1 * 0; omega
    | ⟨1, _⟩ => by show r.val = 0 + 1 * r.val; omega
    | ⟨2, _⟩ => by show 256 * p.val + n.val = 256 * p.val + 1 * n.val; omega

theorem emb_acc1 (h : Fin 2) (r : Fin 8) (n : Fin 128) :
    (rAcc1 h).emb (ix3 0 r n) = ix3 h r ⟨4608 + n.val, by omega⟩ :=
  Rect.emb_eq_of_coords _ _ _ fun a => match a with
    | ⟨0, _⟩ => by show h.val = h.val + 1 * 0; omega
    | ⟨1, _⟩ => by show r.val = 0 + 1 * r.val; omega
    | ⟨2, _⟩ => by show 4608 + n.val = 4608 + 1 * n.val; omega

theorem emb_wc2 (h : Fin 2) (p : Fin 18) (d : Fin 128) (n : Fin 256) :
    (rWc2 h p).emb (ix3 0 d n) = ix3 h d ⟨256 * p.val + n.val, by omega⟩ :=
  Rect.emb_eq_of_coords _ _ _ fun a => match a with
    | ⟨0, _⟩ => by show h.val = h.val + 1 * 0; omega
    | ⟨1, _⟩ => by show d.val = 0 + 1 * d.val; omega
    | ⟨2, _⟩ => by show 256 * p.val + n.val = 256 * p.val + 1 * n.val; omega

theorem emb_wc1 (h : Fin 2) (d : Fin 128) (n : Fin 128) :
    (rWc1 h).emb (ix3 0 d n) = ix3 h d ⟨4608 + n.val, by omega⟩ :=
  Rect.emb_eq_of_coords _ _ _ fun a => match a with
    | ⟨0, _⟩ => by show h.val = h.val + 1 * 0; omega
    | ⟨1, _⟩ => by show d.val = 0 + 1 * d.val; omega
    | ⟨2, _⟩ => by show 4608 + n.val = 4608 + 1 * n.val; omega

section Acc

variable (xw : Vec Ideal S1x16x128 .bf16) (x1 : Vec Ideal S128x2x4736 .bf16) (P : Vec Ideal S2x8x4736 .f32)
  (wc : (r : Rect S2x128x4736) → r.shape.Idx → Elt Ideal .fp8e4m3)
  (s : Fin 2 → Fin 37 → FVec Ideal S8x128 .f32)
  (rd : List (View.Piece (Elt Ideal) S2x8x4736 .f32) → (r : Rect S2x8x4736) → r.shape.Idx → Elt Ideal .f32)
  (base : List (View.Piece (Elt Ideal) S2x8x4736 .f32))

/-- What stores made so far are: each leaves the right entries; half `h` is stored up to column `c h`, and nothing past it. -/
structure Stored (L : List (View.Piece (Elt Ideal) S2x8x4736 .f32)) (c : Fin 2 → ℕ) : Prop where
  val : ∀ p ∈ L, ∀ x : p.1.shape.Idx, p.2 x = accStep (fun r d => xw (ix3 0 r d)) x1 P (p.1.emb x)
  lt : ∀ p ∈ L, ∀ (h : Fin 2) (r : Fin 8) (n : Fin 4736), (ix3 h r n : S2x8x4736.Idx) ∈ p.1.set → n.val < c h
  cov : ∀ (h : Fin 2) (r : Fin 8) (n : Fin 4736), n.val < c h → ∃ p ∈ L, (ix3 h r n : S2x8x4736.Idx) ∈ p.1.set

variable (hwc : ∀ (r : Rect S2x128x4736) (x : r.shape.Idx), wc r x = wcF x1 (r.emb x))
  (hs : ∀ (h : Fin 2) (t : Fin 37) (r : Fin 8) (n : Fin 128), s h t (ix2 r n) = tsc x1 h t)
  (hrd : ∀ (L : List (View.Piece (Elt Ideal) S2x8x4736 .f32)) (r : Rect S2x8x4736) (x : r.shape.Idx),
    (∀ p ∈ L, r.emb x ∉ p.1.set) → rd (L ++ base) r x = P (r.emb x))

variable {xw x1 P}

theorem Stored.nil : Stored xw x1 P [] (fun _ => 0) where
  val _ h := absurd h List.not_mem_nil
  lt _ h := absurd h List.not_mem_nil
  cov _ _ _ h := absurd h (Nat.not_lt_zero _)

/-- One more store, of half `h`, between column `c h` and column `e`. -/
theorem Stored.cons {L : List (View.Piece (Elt Ideal) S2x8x4736 .f32)} {c : Fin 2 → ℕ} (H : Stored xw x1 P L c) (h : Fin 2) (e : ℕ)
    (p : View.Piece (Elt Ideal) S2x8x4736 .f32) (he : c h ≤ e)
    (hval : ∀ x : p.1.shape.Idx, p.2 x = accStep (fun r d => xw (ix3 0 r d)) x1 P (p.1.emb x))
    (hset : ∀ (h' : Fin 2) (r : Fin 8) (n : Fin 4736), (ix3 h' r n : S2x8x4736.Idx) ∈ p.1.set ↔ h' = h ∧ c h ≤ n.val ∧ n.val < e) :
    Stored xw x1 P (p :: L) (Function.update c h e) where
  val q hq := by
    rcases List.mem_cons.1 hq with rfl | hq
    · exact hval
    · exact H.val q hq
  lt q hq h' r n hn := by
    by_cases hh : h' = h
    · subst hh
      rw [Function.update_self]
      rcases List.mem_cons.1 hq with rfl | hq
      · exact ((hset h' r n).1 hn).2.2
      · exact lt_of_lt_of_le (H.lt q hq h' r n hn) he
    · rw [Function.update_of_ne hh]
      rcases List.mem_cons.1 hq with rfl | hq
      · exact absurd ((hset h' r n).1 hn).1 hh
      · exact H.lt q hq h' r n hn
  cov h' r n hn := by
    by_cases hh : h' = h
    · subst hh
      rw [Function.update_self] at hn
      by_cases h1 : n.val < c h'
      · obtain ⟨q, hq, hq'⟩ := H.cov h' r n h1
        exact ⟨q, List.mem_cons_of_mem _ hq, hq'⟩
      · exact ⟨p, List.mem_cons_self, (hset h' r n).2 ⟨rfl, by omega, hn⟩⟩
    · rw [Function.update_of_ne hh] at hn
      obtain ⟨q, hq, hq'⟩ := H.cov h' r n hn
      exact ⟨q, List.mem_cons_of_mem _ hq, hq'⟩

include hrd in
theorem Stored.rd_eq {L : List (View.Piece (Elt Ideal) S2x8x4736 .f32)} {c : Fin 2 → ℕ} (H : Stored xw x1 P L c)
    (r : Rect S2x8x4736) (x : r.shape.Idx) (h : Fin 2) (a : Fin 8) (n : Fin 4736) (hx : r.emb x = ix3 h a n) (hn : c h ≤ n.val) :
    rd (L ++ base) r x = P (ix3 h a n) := by
  rw [hrd L r x (fun p hp hm => by rw [hx] at hm; have := H.lt p hp h a n hm; omega), hx]

theorem mem_rAcc2 (h : Fin 2) (p : Fin 18) (h' : Fin 2) (r : Fin 8) (n : Fin 4736) :
    (ix3 h' r n : S2x8x4736.Idx) ∈ (rAcc2 h p).set ↔ h' = h ∧ 256 * p.val ≤ n.val ∧ n.val < 256 * (p.val + 1) := by
  constructor
  · intro hm
    obtain ⟨x, hx⟩ := (rAcc2 h p).exists_idx_of_mem hm
    obtain ⟨a, r', n', rfl⟩ : ∃ (a : Fin 1) (r' : Fin 8) (n' : Fin 256), x = ix3 a r' n' := ⟨x 0, x 1, x 2, eq_ix3 x⟩
    obtain rfl : a = 0 := Subsingleton.elim _ _
    have e := (emb_acc2 h p r' n').symm.trans hx
    have e0 : h = h' := congrFun e 0
    have e2 : 256 * p.val + n'.val = n.val := congrArg Fin.val (congrFun e 2 : (⟨256 * p.val + n'.val, by omega⟩ : Fin 4736) = n)
    exact ⟨e0.symm, by omega, by omega⟩
  · rintro ⟨rfl, h1, h2⟩
    have e := emb_acc2 h' p r ⟨n.val - 256 * p.val, by omega⟩
    have e2 : (ix3 h' r ⟨256 * p.val + (⟨n.val - 256 * p.val, by omega⟩ : Fin 256).val, by simp; omega⟩ : S2x8x4736.Idx) = ix3 h' r n := by
      congr 1; apply Fin.ext; simp; omega
    rw [← e2, ← e]
    exact LoadRect.idx_mem _ _

theorem mem_rAcc1 (h : Fin 2) (h' : Fin 2) (r : Fin 8) (n : Fin 4736) :
    (ix3 h' r n : S2x8x4736.Idx) ∈ (rAcc1 h).set ↔ h' = h ∧ 4608 ≤ n.val ∧ n.val < 4736 := by
  constructor
  · intro hm
    obtain ⟨x, hx⟩ := (rAcc1 h).exists_idx_of_mem hm
    obtain ⟨a, r', n', rfl⟩ : ∃ (a : Fin 1) (r' : Fin 8) (n' : Fin 128), x = ix3 a r' n' := ⟨x 0, x 1, x 2, eq_ix3 x⟩
    obtain rfl : a = 0 := Subsingleton.elim _ _
    have e := (emb_acc1 h r' n').symm.trans hx
    have e0 : h = h' := congrFun e 0
    have e2 : 4608 + n'.val = n.val := congrArg Fin.val (congrFun e 2 : (⟨4608 + n'.val, by omega⟩ : Fin 4736) = n)
    exact ⟨e0.symm, by omega, by omega⟩
  · rintro ⟨rfl, h1, h2⟩
    have e := emb_acc1 h' r ⟨n.val - 4608, by omega⟩
    have e2 : (ix3 h' r ⟨4608 + (⟨n.val - 4608, by omega⟩ : Fin 128).val, by simp; omega⟩ : S2x8x4736.Idx) = ix3 h' r n := by
      congr 1; apply Fin.ext; simp; omega
    rw [← e2, ← e]
    exact LoadRect.idx_mem _ _

include hwc hs hrd

/-- The store of two tiles' columns. -/
theorem Stored.pair {L : List (View.Piece (Elt Ideal) S2x8x4736 .f32)} {c : Fin 2 → ℕ} (H : Stored xw x1 P L c) (h : Fin 2) (p : Fin 18)
    (hc : c h = 256 * p.val) :
    Stored xw x1 P (⟨rAcc2 h p, accPart2 xw (wc (rWc2 h p)) (s h ⟨2 * p.val, by omega⟩) (s h ⟨2 * p.val + 1, by omega⟩)
      (rd (L ++ base) (rAcc2 h p))⟩ :: L) (Function.update c h (256 * (p.val + 1))) := by
  refine H.cons h _ _ (by omega) (fun x => ?_) (fun h' r n => by rw [hc]; exact mem_rAcc2 h p h' r n)
  obtain ⟨a, r, n, rfl⟩ : ∃ (a : Fin 1) (r : Fin 8) (n : Fin 256), x = ix3 a r n := ⟨x 0, x 1, x 2, eq_ix3 x⟩
  obtain rfl : a = 0 := Subsingleton.elim _ _
  refine (accPart2_apply xw _ _ _ _ r n).trans ?_
  refine Eq.trans ?_ (congrArg (accStep (fun r d => xw (ix3 0 r d)) x1 P) (emb_acc2 h p r n).symm)
  show _ = accAt _ x1 P h r _
  unfold accAt
  rw [H.rd_eq rd base hrd (rAcc2 h p) (ix3 0 r n) h r _ (emb_acc2 h p r n) (by rw [hc]; simp)]
  congr 2
  · refine Finset.sum_congr rfl fun d _ => ?_
    rw [hwc, emb_wc2]
    rfl
  · by_cases hn : n.val < 128
    · rw [dif_pos hn, hs]
      congr 1; apply Fin.ext; simp; omega
    · rw [dif_neg hn, hs]
      congr 1; apply Fin.ext; simp; omega

/-- The store of the last tile's columns. -/
theorem Stored.last {L : List (View.Piece (Elt Ideal) S2x8x4736 .f32)} {c : Fin 2 → ℕ} (H : Stored xw x1 P L c) (h : Fin 2)
    (hc : c h = 4608) :
    Stored xw x1 P (⟨rAcc1 h, accPart1 xw (wc (rWc1 h)) (s h 36) (rd (L ++ base) (rAcc1 h))⟩ :: L) (Function.update c h 4736) := by
  refine H.cons h _ _ (by omega) (fun x => ?_) (fun h' r n => by rw [hc]; exact mem_rAcc1 h h' r n)
  obtain ⟨a, r, n, rfl⟩ : ∃ (a : Fin 1) (r : Fin 8) (n : Fin 128), x = ix3 a r n := ⟨x 0, x 1, x 2, eq_ix3 x⟩
  obtain rfl : a = 0 := Subsingleton.elim _ _
  refine (accPart1_apply xw _ _ _ r n).trans ?_
  refine Eq.trans ?_ (congrArg (accStep (fun r d => xw (ix3 0 r d)) x1 P) (emb_acc1 h r n).symm)
  show _ = accAt _ x1 P h r _
  unfold accAt
  rw [H.rd_eq rd base hrd (rAcc1 h) (ix3 0 r n) h r _ (emb_acc1 h r n) (by rw [hc]; simp)]
  congr 2
  · refine Finset.sum_congr rfl fun d _ => ?_
    rw [hwc, emb_wc1]
    rfl
  · rw [hs]
    congr 1; apply Fin.ext; simp; omega

theorem Stored.pairs {L : List (View.Piece (Elt Ideal) S2x8x4736 .f32)} {c : Fin 2 → ℕ} (H : Stored xw x1 P L c) (h : Fin 2) (hc : c h = 0) :
    ∀ (m : ℕ) (hm : m ≤ 18), ∃ L', accPairs xw wc s rd h (L ++ base) m hm = L' ++ base ∧ Stored xw x1 P L' (Function.update c h (256 * m))
  | 0, _ => ⟨L, rfl, by rw [Nat.mul_zero, ← hc, Function.update_eq_self]; exact H⟩
  | m + 1, hm => by
    obtain ⟨L', e, H'⟩ := Stored.pairs H h hc m (Nat.le_of_succ_le hm)
    have H3 := H'.pair wc s rd base hwc hs hrd h ⟨m, hm⟩ (by rw [Function.update_self])
    rw [Function.update_idem] at H3
    refine ⟨_, ?_, H3⟩
    unfold accPairs
    rw [e]
    rfl

theorem Stored.row {L : List (View.Piece (Elt Ideal) S2x8x4736 .f32)} {c : Fin 2 → ℕ} (H : Stored xw x1 P L c) (h : Fin 2) (hc : c h = 0) :
    ∃ L', accRow xw wc s rd h (L ++ base) = L' ++ base ∧ Stored xw x1 P L' (Function.update c h 4736) := by
  obtain ⟨L', e, H'⟩ := Stored.pairs wc s rd base hwc hs hrd H h hc 18 le_rfl
  have H3 := H'.last wc s rd base hwc hs hrd h (by rw [Function.update_self])
  rw [Function.update_idem] at H3
  refine ⟨_, ?_, H3⟩
  unfold accRow
  rw [e]
  rfl

/-- All of a point's stores to the accumulator. -/
theorem Stored.all : ∃ L', accList xw wc s rd base = L' ++ base ∧ Stored xw x1 P L' (fun _ => 4736) := by
  obtain ⟨L1, e1, H1⟩ := Stored.row wc s rd base hwc hs hrd (Stored.nil (xw := xw) (x1 := x1) (P := P)) 0 rfl
  obtain ⟨L2, e2, H2⟩ := Stored.row wc s rd base hwc hs hrd H1 1 (by rw [Function.update_of_ne (by decide)])
  refine ⟨L2, ?_, ?_⟩
  · unfold accList
    rw [show accRow xw wc s rd 0 base = L1 ++ base from e1]
    exact e2
  · have : Function.update (Function.update (fun _ : Fin 2 => 0) 0 4736) 1 4736 = fun _ => 4736 := by
      funext h
      match h with
      | 0 => rfl
      | 1 => rfl
    rwa [this] at H2

/-- What the stores leave, through any view. -/
theorem read_accList (arg10 : Memref sig .tc .vmem S2x8x4736 .f32) (f : arg10.view.ty.Contents (Elt Ideal)) :
    arg10.view.read (Elt Ideal) (arg10.view.writes (Elt Ideal) f (accList xw wc s rd base))
      = accStep (fun r d => xw (ix3 0 r d)) x1 P := by
  obtain ⟨L, e, H⟩ := Stored.all (P := P) wc s rd base hwc hs hrd
  rw [e, View.writes_append]
  funext y
  refine View.read_writes_apply_of_pieces _ _ _ _ H.val y ?_
  rw [eq_ix3 y]
  exact H.cov _ _ _ (y 2).isLt

/-- What a load reads back after the stores. -/
theorem readCov_accList (arg10 : Memref sig .tc .vmem S2x8x4736 .f32) (r : Rect S2x8x4736) (x : r.shape.Idx) :
    arg10.view.readCov (accList xw wc s rd base) r.toLoadRect x = accStep (fun r d => xw (ix3 0 r d)) x1 P (r.emb x) := by
  obtain ⟨L, e, H⟩ := Stored.all (P := P) wc s rd base hwc hs hrd
  rw [View.readCov_eq_canon', e]
  show View.canon (L ++ base) (r.emb x) = _
  rw [← View.read_writes_apply_eq_canon arg10.view arg10.view.junk (r.emb x) (L ++ base) (by
    rw [eq_ix3 (r.emb x)]
    obtain ⟨p, hp, hp'⟩ := H.cov (r.emb x 0) (r.emb x 1) (r.emb x 2) (r.emb x 2).isLt
    exact ⟨p, List.mem_append_left _ hp, hp'⟩), View.writes_append]
  refine View.read_writes_apply_of_pieces _ _ _ _ H.val _ ?_
  rw [eq_ix3 (r.emb x)]
  exact H.cov _ _ _ (r.emb x 2).isLt

end Acc

/-! ## From an accumulator that holds `P`, and from zero -/

section Use

variable (arg3 : Memref sig .tc .vmem S128x2x4736 .bf16) (harg3 : arg3.IsWhole) (arg7 : Memref sig .tc .vmem S2x128x4736 .fp8e4m3)
  (arg10 : Memref sig .tc .vmem S2x8x4736 .f32) (harg10 : arg10.IsWhole)
  (x1 : Vec Ideal S128x2x4736 .bf16) (P : Vec Ideal S2x8x4736 .f32) (xw : Vec Ideal S1x16x128 .bf16)

theorem scale_ldW (h : Fin 2) (t : Fin 37) (r : Fin 8) (n : Fin 128) :
    (tileScale h (ldW arg3 harg3 x1 t) : FVec Ideal S8x128 .f32) (ix2 r n) = tsc x1 h t := by
  rw [tileScale_apply, tileOf_ldW]
  rfl

theorem rd_old (L : List (View.Piece (Elt Ideal) S2x8x4736 .f32)) (r : Rect S2x8x4736) (x : r.shape.Idx) :
    rdOld arg10 harg10 P L r x = P (r.emb x) :=
  Memref.IsWhole.readAt_unread harg10 P _ _

theorem zero_apply (y : S2x8x4736.Idx) : (k0_pay327 : FVec Ideal S2x8x4736 .f32) y = (0 : EReal) := by
  obtain ⟨h, r, n, rfl⟩ : ∃ (h : Fin 2) (r : Fin 8) (n : Fin 4736), y = ix3 h r n := ⟨y 0, y 1, y 2, eq_ix3 y⟩
  pointwise [k0_pay327]

theorem zeros3 : (![0, 0, 0] : Fin 3 → ℕ) = fun _ => 0 := by
  funext a
  match a with
  | 0 => rfl
  | 1 => rfl
  | 2 => rfl

theorem rd_cov (L : List (View.Piece (Elt Ideal) S2x8x4736 .f32)) (r : Rect S2x8x4736) (x : r.shape.Idx)
    (h : ∀ p ∈ L, r.emb x ∉ p.1.set) : rdCov arg10 (L ++ accZero) r x = (0 : EReal) := by
  show arg10.view.readCov (L ++ accZero) r.toLoadRect x = _
  rw [View.readCov_eq_canon']
  show View.canon (L ++ accZero) (r.emb x) = _
  induction L with
  | nil =>
    show View.canon accZero (r.emb x) = _
    unfold accZero
    rw [View.canon_unit_zero (S := S2x8x4736) zeros3]
    exact zero_apply _
  | cons p L ih =>
    rw [List.cons_append, View.canon_cons_of_not_mem p _ (h p List.mem_cons_self)]
    exact ih fun q hq => h q (List.mem_cons_of_mem _ hq)

theorem read_acc_old (f : arg10.view.ty.Contents (Elt Ideal)) :
    arg10.view.read (Elt Ideal) (arg10.view.writes (Elt Ideal) f (accStores arg7 (ldW arg3 harg3 x1) xw (rdOld arg10 harg10 P) []))
      = accStep (fun r d => xw (ix3 0 r d)) x1 P :=
  read_accList _ _ _ [] (fun r x => readCov_codeList arg3 harg3 x1 arg7 r x) (fun h t r n => scale_ldW arg3 harg3 x1 h t r n)
    (fun L r x _ => rd_old arg10 harg10 P _ r x) arg10 f

theorem readCov_acc_old (r : Rect S2x8x4736) (x : r.shape.Idx) :
    arg10.view.readCov (accStores arg7 (ldW arg3 harg3 x1) xw (rdOld arg10 harg10 P) []) r.toLoadRect x
      = accStep (fun r d => xw (ix3 0 r d)) x1 P (r.emb x) :=
  readCov_accList _ _ _ [] (fun r x => readCov_codeList arg3 harg3 x1 arg7 r x) (fun h t r n => scale_ldW arg3 harg3 x1 h t r n)
    (fun L r x _ => rd_old arg10 harg10 P _ r x) arg10 r x

theorem read_acc_zero (f : arg10.view.ty.Contents (Elt Ideal)) :
    arg10.view.read (Elt Ideal) (arg10.view.writes (Elt Ideal) f (accStores arg7 (ldW arg3 harg3 x1) xw (rdCov arg10) accZero))
      = accStep (fun r d => xw (ix3 0 r d)) x1 (fun _ => (0 : EReal)) :=
  read_accList _ _ _ accZero (fun r x => readCov_codeList arg3 harg3 x1 arg7 r x) (fun h t r n => scale_ldW arg3 harg3 x1 h t r n)
    (fun L r x h => rd_cov arg10 L r x h) arg10 f

/-- What the load of the point's dequantised input reads. -/
theorem ldXw_apply (i : grid0.Coords) (arg9 : Memref sig .tc .vmem S28x16x128 .bf16) (f : arg9.view.ty.Contents (Elt Ideal))
    (x0 : Vec Ideal S4x3584 .bf16) (hf : arg9.view.read (Elt Ideal) f = xwF x0) (r : Fin 16) (d : Fin 128) :
    ldXw i arg9 f (ix3 0 r d) = xwAt x0 ⟨(i 1).val, i1_lt i⟩ r d := by
  refine (congrFun hf _).trans ?_
  refine (congrArg (xwF x0) (?_ : _ = (ix3 ⟨(i 1).val, i1_lt i⟩ r d : S28x16x128.Idx))).trans rfl
  exact Rect.emb_eq_of_coords _ _ _ fun a => match a with
    | ⟨0, _⟩ => by show (i 1).val = (BitVec.ofNat 32 (i 1).val).toNat + 1 * 0; rw [word_i1]; rfl
    | ⟨1, _⟩ => by show r.val = 0 + 1 * r.val; omega
    | ⟨2, _⟩ => by show d.val = 0 + 1 * d.val; omega

/-- The gated output of an accumulator. -/
def yF (A : Vec Ideal S2x8x4736 .f32) : Vec Ideal S4x4736 .bf16 := fun y =>
  (A (ix3 0 ⟨(y 0).val, Nat.lt_of_lt_of_le (show (y 0).val < 4 from (y 0).isLt) (by decide)⟩ (y 1))
    * Ideal.logistic (A (ix3 0 ⟨(y 0).val, Nat.lt_of_lt_of_le (show (y 0).val < 4 from (y 0).isLt) (by decide)⟩ (y 1)))
    * A (ix3 1 ⟨(y 0).val, Nat.lt_of_lt_of_le (show (y 0).val < 4 from (y 0).isLt) (by decide)⟩ (y 1)) : EReal)

theorem y_eq (A : Vec Ideal S2x8x4736 .f32) (a b : Vec Ideal S1x4x4736 .f32)
    (ha : ∀ (r : Fin 4) (n : Fin 4736), a (ix3 0 r n) = A (ix3 0 ⟨r.val, by omega⟩ n))
    (hb : ∀ (r : Fin 4) (n : Fin 4736), b (ix3 0 r n) = A (ix3 1 ⟨r.val, by omega⟩ n)) :
    k0_pay3 (F := Ideal) a b = yF A := by
  funext y
  obtain ⟨r, n, rfl⟩ : ∃ (r : Fin 4) (n : Fin 4736), y = ix2 r n := ⟨y 0, y 1, eq_ix2 y⟩
  rw [y_apply, ha, hb]
  rfl

end Use

end

end Cert.KernelIdeal.Hand
-- ==== Proof.Data.lean ====
module

public import proofs.«01_k».proof.Proof.AccContent

@[expose] public section

set_option maxRecDepth 16384

/-! # What every buffer holds, point by point -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The grid has points. -/
theorem N_pos : 0 < cfg0.N := by rw [show cfg0.N = 112 from N_0]; decide

/-- The input, as the first point finds it. -/
def X0 (c : Dev nD) : Vec Ideal S4x3584 .bf16 := iblk m c 0 ⟨0, N_pos⟩

/-- The weight block of point `t`. -/
def W (c : Dev nD) (t : Fin cfg0.N) : Vec Ideal S128x2x4736 .bf16 := iblk m c 1 t

/-- The dequantised input's block that point `t` uses. -/
def xwT (c : Dev nD) (t : Fin cfg0.N) : Fin 16 → Fin 128 → EReal :=
  fun r d => xwAt (X0 m c) ⟨(grid0.coords t 1).val, i1_lt _⟩ r d

/-- The accumulator after point `n`. -/
def accN (c : Dev nD) : (n : ℕ) → n < cfg0.N → Vec Ideal S2x8x4736 .f32
  | 0, hn => accStep (xwT m c ⟨0, hn⟩) (W m c ⟨0, hn⟩) (fun _ => (0 : EReal))
  | n + 1, hn => accStep (xwT m c ⟨n + 1, hn⟩) (W m c ⟨n + 1, hn⟩)
      (if (n + 1) % 28 = 0 then fun _ => (0 : EReal) else accN c n (Nat.lt_of_succ_lt hn))

/-- The scales after point `n`. -/
def wsN (c : Dev nD) : (n : ℕ) → n < cfg0.N → Vec Ideal S28x2x148 .f32
  | 0, hn => wsStep (grid0.coords ⟨0, hn⟩ 0).val (grid0.coords ⟨0, hn⟩ 1).val (W m c ⟨0, hn⟩) (fun _ => (0 : EReal))
  | n + 1, hn => wsStep (grid0.coords ⟨n + 1, hn⟩ 0).val (grid0.coords ⟨n + 1, hn⟩ 1).val (W m c ⟨n + 1, hn⟩) (wsN c n (Nat.lt_of_succ_lt hn))

theorem accN_reset (c : Dev nD) (t : Fin cfg0.N) (h : t.val % 28 = 0) :
    accN m c t.val t.isLt = accStep (xwT m c t) (W m c t) (fun _ => (0 : EReal)) := by
  obtain ⟨n, hn⟩ := t
  cases n with
  | zero => rfl
  | succ n => show accStep _ _ _ = _; rw [if_pos h]

theorem accN_go (c : Dev nD) (t : Fin cfg0.N) (h : ¬t.val % 28 = 0) :
    accN m c t.val t.isLt = accStep (xwT m c t) (W m c t) (accN m c (t.val - 1) (Nat.lt_of_le_of_lt (Nat.sub_le _ _) t.isLt)) := by
  obtain ⟨n, hn⟩ := t
  cases n with
  | zero => exact absurd (Nat.zero_mod _) h
  | succ n => show accStep _ _ _ = _; rw [if_neg h]; rfl

theorem wsN_go (c : Dev nD) (t : Fin cfg0.N) (h : t.val ≠ 0) :
    wsN m c t.val t.isLt = wsStep (grid0.coords t 0).val (grid0.coords t 1).val (W m c t) (wsN m c (t.val - 1) (Nat.lt_of_le_of_lt (Nat.sub_le _ _) t.isLt)) := by
  obtain ⟨n, hn⟩ := t
  cases n with
  | zero => exact absurd rfl h
  | succ n => rfl

/-- The region's invariant: after the first point the two scratch buffers hold the dequantised input and the accumulator. -/
def PhiS (c : Dev nD) : (n : ℕ) → n ≤ cfg0.N → sProp 𝕄
  | 0, _ => Pipeline.ΦA spec0 c
  | n + 1, hn => iprop(iprop(owns (c : Thread nD τ) scM0_0 fullShare (xwF (X0 m c)) ∗ owns (c : Thread nD τ) scM0_1 fullShare (accN m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xwF (X0 m c)) ∗ owns (c : Thread nD τ) scM0_1 fullShare (accN m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (xwF (X0 m c)) ∗ owns (c : Thread nD τ) scM0_1 fullShare (accN m c (n - 1) (by omega))) ∗ (∃ r, prngReg c r)) := by
  cases n with
  | zero => exact absurd rfl hz
  | succ n => rfl

/-- The proof data: what each window's buffer holds after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => yF (accN m c t.val t.isLt)
    | ⟨3, _⟩ => xcF (X0 m c)
    | ⟨4, _⟩ => xsF (X0 m c)
    | ⟨5, _⟩ => wcF (W m c t)
    | ⟨6, _⟩ => wsN m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = W m c t := by dsimp only [dats]; rfl
theorem after0_2 (c : Dev nD) (t : Fin cfg0.N) : (dats m 0 c).after 2 t = yF (accN m c t.val t.isLt) := by dsimp only [dats]
theorem after0_3 (c : Dev nD) (t : Fin cfg0.N) : (dats m 0 c).after 3 t = xcF (X0 m c) := by dsimp only [dats]
theorem after0_4 (c : Dev nD) (t : Fin cfg0.N) : (dats m 0 c).after 4 t = xsF (X0 m c) := by dsimp only [dats]
theorem after0_5 (c : Dev nD) (t : Fin cfg0.N) : (dats m 0 c).after 5 t = wcF (W m c t) := by dsimp only [dats]
theorem after0_6 (c : Dev nD) (t : Fin cfg0.N) : (dats m 0 c).after 6 t = wsN m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = W m c t :=
  before0_1_of m (dats m 0 c) (A_eq m c 1) (after0_1 m c) t d

/-! ## Which windows the body leaves alone, and when -/

theorem idle2_true (t : Fin cfg0.N) (h : ¬t.val % 28 = 27) : cfg0.idle 2 (grid0.coords t) = true := by
  show (!(k0_cond3 (grid0.coords t) == 1#1)) = true
  rw [Bool.not_eq_true', beq_eq_false_iff_ne]
  exact fun e => h ((hcond0_2 t).mp e)
theorem idle2_false (t : Fin cfg0.N) (h : t.val % 28 = 27) : cfg0.idle 2 (grid0.coords t) = false := by
  show (!(k0_cond3 (grid0.coords t) == 1#1)) = false
  rw [Bool.not_eq_false', beq_iff_eq]
  exact (hcond0_2 t).mpr h
theorem cond1_beq (t : Fin cfg0.N) : (!(k0_cond1 (grid0.coords t) == 1#1)) = !decide (t.val % 112 = 0) := by
  by_cases h : t.val % 112 = 0
  · rw [decide_eq_true h, beq_iff_eq.mpr ((hcond0_0 t).mpr h)]
  · rw [decide_eq_false h, beq_eq_false_iff_ne.mpr (fun e => h ((hcond0_0 t).mp e))]
theorem idle3 (t : Fin cfg0.N) : cfg0.idle 3 (grid0.coords t) = !decide (t.val % 112 = 0) := cond1_beq t
theorem idle4 (t : Fin cfg0.N) : cfg0.idle 4 (grid0.coords t) = !decide (t.val % 112 = 0) := cond1_beq t

theorem flush2_false (t : Fin cfg0.N) (h : ¬t.val % 28 = 27) : (cfg0.win 2).flush t = false :=
  Bool.eq_false_iff.mpr fun e => h ((flush0_2 t).mp e)

theorem lt112 (t : Fin cfg0.N) : t.val < 112 := lt_of_lt_of_eq t.isLt (show cfg0.N = 112 from N_0)

/-- After the first point window 3 holds the input's codes. -/
theorem before0_3 (c : Dev nD) : ∀ (n : ℕ) (hn : n < cfg0.N), n ≠ 0 → ∀ d, (dats m 0 c).before 3 ⟨n, hn⟩ d = xcF (X0 m c)
  | 0, _, h, _ => absurd rfl h
  | n + 1, hn, _, d => by
    have hN := lt112 ⟨n + 1, hn⟩
    have hfl : (cfg0.win 3).flush ⟨n, Nat.lt_of_succ_lt hn⟩ = false :=
      Bool.eq_false_iff.mpr fun e => by have := (flush0_3 _).mp e; dsimp only at this hN; omega
    rw [(dats m 0 c).before_of_pos 3 ⟨n + 1, hn⟩ (Nat.succ_ne_zero n) ((cfg0.win 3).fetch_out rfl _)]
    show (if (cfg0.win 3).flush ⟨n, Nat.lt_of_succ_lt hn⟩ then d else (dats m 0 c).left 3 ⟨n, Nat.lt_of_succ_lt hn⟩ d) = _
    rw [hfl, if_neg Bool.false_ne_true]
    unfold Dat.left
    by_cases hz : n = 0
    · rw [show cfg0.idle 3 (cfg0.grid.coords ⟨n, Nat.lt_of_succ_lt hn⟩) = false from (idle3 _).trans (by subst hz; rfl)]
      show (dats m 0 c).kept 3 _ d = _
      unfold Dat.kept
      rw [Pipeline.fill_of_clip_none 3 _ (fun _ => rfl) d ((dats m 0 c).after 3 _), Window.fill_cut, after0_3]
    · rw [show cfg0.idle 3 (cfg0.grid.coords ⟨n, Nat.lt_of_succ_lt hn⟩) = true from
        (idle3 _).trans (by rw [decide_eq_false (show ¬n % 112 = 0 by dsimp only at hN; omega)]; rfl)]
      exact before0_3 c n _ hz d

/-- After the first point window 4 holds the input's scales. -/
theorem before0_4 (c : Dev nD) : ∀ (n : ℕ) (hn : n < cfg0.N), n ≠ 0 → ∀ d, (dats m 0 c).before 4 ⟨n, hn⟩ d = xsF (X0 m c)
  | 0, _, h, _ => absurd rfl h
  | n + 1, hn, _, d => by
    have hN := lt112 ⟨n + 1, hn⟩
    have hfl : (cfg0.win 4).flush ⟨n, Nat.lt_of_succ_lt hn⟩ = false :=
      Bool.eq_false_iff.mpr fun e => by have := (flush0_4 _).mp e; dsimp only at this hN; omega
    rw [(dats m 0 c).before_of_pos 4 ⟨n + 1, hn⟩ (Nat.succ_ne_zero n) ((cfg0.win 4).fetch_out rfl _)]
    show (if (cfg0.win 4).flush ⟨n, Nat.lt_of_succ_lt hn⟩ then d else (dats m 0 c).left 4 ⟨n, Nat.lt_of_succ_lt hn⟩ d) = _
    rw [hfl, if_neg Bool.false_ne_true]
    unfold Dat.left
    by_cases hz : n = 0
    · rw [show cfg0.idle 4 (cfg0.grid.coords ⟨n, Nat.lt_of_succ_lt hn⟩) = false from (idle4 _).trans (by subst hz; rfl)]
      show (dats m 0 c).kept 4 _ d = _
      unfold Dat.kept
      rw [Pipeline.fill_of_clip_none 4 _ (fun _ => rfl) d ((dats m 0 c).after 4 _), Window.fill_cut, after0_4]
    · rw [show cfg0.idle 4 (cfg0.grid.coords ⟨n, Nat.lt_of_succ_lt hn⟩) = true from
        (idle4 _).trans (by rw [decide_eq_false (show ¬n % 112 = 0 by dsimp only at hN; omega)]; rfl)]
      exact before0_4 c n _ hz d

/-- After the first point window 6 holds the scales the point before left. -/
theorem before0_6 (c : Dev nD) (t : Fin cfg0.N) (ht : t.val ≠ 0) (d) :
    (dats m 0 c).before 6 t d = wsN m c (t.val - 1) (Nat.lt_of_le_of_lt (Nat.sub_le _ _) t.isLt) := by
  have hN := lt112 t
  rw [(dats m 0 c).before_out_kept 6 rfl t ht (Bool.eq_false_iff.mpr fun e => by have := (flush0_6 _).mp e; dsimp only at this; omega)
    (fun _ => rfl) (fun _ _ => rfl), after0_6]

/-! ## What the body must leave -/

theorem leaves0 (c : Dev nD) (t : Fin cfg0.N) : (dats m 0 c).leavesExact 0 t = owns (c : Thread nD τ) (ms0_0 t) fullShare (iblk m c 0 t) := by
  rw [← after0_0]
theorem leaves1 (c : Dev nD) (t : Fin cfg0.N) : (dats m 0 c).leavesExact 1 t = owns (c : Thread nD τ) (ms0_1 t) fullShare (W m c t) := by
  rw [← after0_1]
theorem leaves5 (c : Dev nD) (t : Fin cfg0.N) : (dats m 0 c).leavesExact 5 t = owns (c : Thread nD τ) (ms0_5 t) fullShare (wcF (W m c t)) := by
  rw [← after0_5]
theorem leaves6 (c : Dev nD) (t : Fin cfg0.N) : (dats m 0 c).leavesExact 6 t = owns (c : Thread nD τ) (ms0_6 t) fullShare (wsN m c t.val t.isLt) := by
  rw [← after0_6]
theorem leaves2_live (c : Dev nD) (t : Fin cfg0.N) (h : t.val % 28 = 27) :
    (dats m 0 c).leavesExact 2 t = owns (c : Thread nD τ) (ms0_2 t) fullShare (yF (accN m c t.val t.isLt)) := by
  rw [← after0_2]; unfold Dat.leavesExact; rw [show cfg0.idle 2 (cfg0.grid.coords t) = false from idle2_false t h]
theorem leaves2_idle (c : Dev nD) (t : Fin cfg0.N) (h : ¬t.val % 28 = 27) :
    (dats m 0 c).leavesExact 2 t = iprop(∃ d, owns (c : Thread nD τ) (ms0_2 t) fullShare ((dats m 0 c).before 2 t d)) :=
  (dats m 0 c).leavesExact_idle 2 t (idle2_true t h) (flush2_false t h)
theorem leaves3 (c : Dev nD) (t : Fin cfg0.N) :
    owns (c : Thread nD τ) (ms0_3 t) fullShare (xcF (X0 m c)) ⊢ (dats m 0 c).leavesExact 3 t := by
  by_cases h0 : t.val % 112 = 0
  · have e : (dats m 0 c).leavesExact 3 t = owns (c : Thread nD τ) (ms0_3 t) fullShare (xcF (X0 m c)) := by
      rw [← after0_3 m c t]; unfold Dat.leavesExact
      rw [show cfg0.idle 3 (cfg0.grid.coords t) = false from (idle3 t).trans (by rw [decide_eq_true h0]; rfl)]
    rw [e]
  · have hi : cfg0.idle 3 (cfg0.grid.coords t) = true := (idle3 t).trans (by rw [decide_eq_false h0]; rfl)
    cases hf : (cfg0.win 3).flush t with
    | true =>
      have e : (dats m 0 c).leavesExact 3 t = owns (c : Thread nD τ) (ms0_3 t) fullShare (xcF (X0 m c)) := by
        rw [← after0_3 m c t]; unfold Dat.leavesExact
        rw [hi, hf]
      rw [e]
    | false =>
      rw [(dats m 0 c).leavesExact_idle 3 t hi hf]
      iintro H
      iexists (xcF (X0 m c))
      rw [before0_3 m c t.val t.isLt (fun h => h0 (by rw [h]))]
      iexact H
theorem leaves4 (c : Dev nD) (t : Fin cfg0.N) :
    owns (c : Thread nD τ) (ms0_4 t) fullShare (xsF (X0 m c)) ⊢ (dats m 0 c).leavesExact 4 t := by
  by_cases h0 : t.val % 112 = 0
  · have e : (dats m 0 c).leavesExact 4 t = owns (c : Thread nD τ) (ms0_4 t) fullShare (xsF (X0 m c)) := by
      rw [← after0_4 m c t]; unfold Dat.leavesExact
      rw [show cfg0.idle 4 (cfg0.grid.coords t) = false from (idle4 t).trans (by rw [decide_eq_true h0]; rfl)]
    rw [e]
  · have hi : cfg0.idle 4 (cfg0.grid.coords t) = true := (idle4 t).trans (by rw [decide_eq_false h0]; rfl)
    cases hf : (cfg0.win 4).flush t with
    | true =>
      have e : (dats m 0 c).leavesExact 4 t = owns (c : Thread nD τ) (ms0_4 t) fullShare (xsF (X0 m c)) := by
        rw [← after0_4 m c t]; unfold Dat.leavesExact
        rw [hi, hf]
      rw [e]
    | false =>
      rw [(dats m 0 c).leavesExact_idle 4 t hi hf]
      iintro H
      iexists (xsF (X0 m c))
      rw [before0_4 m c t.val t.isLt (fun h => h0 (by rw [h]))]
      iexact H

end Cert.KernelIdeal.Hand

end
-- ==== Proof.Blocks.lean ====
module

public import proofs.«01_k».proof.Proof.Data

@[expose] public section

set_option maxRecDepth 16384

/-! # The blocks of the kernel's arrays -/

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ)

theorem index0 : ∀ t : Fin cfg0.N, win0_0.index t (0 : Fin 2) = 0 ∧ win0_0.index t (1 : Fin 2) = 0 :=
  (by decide +kernel : ∀ t : Fin grid0.N, _)

theorem index1 : ∀ t : Fin cfg0.N, win0_1.index t (0 : Fin 3) = t.val % 28 ∧ win0_1.index t (1 : Fin 3) = 0 ∧ win0_1.index t (2 : Fin 3) = t.val / 28 :=
  (by decide +kernel : ∀ t : Fin grid0.N, _)

theorem index2 : ∀ t : Fin cfg0.N, win0_2.index t (0 : Fin 2) = 0 ∧ win0_2.index t (1 : Fin 2) = t.val / 28 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

theorem index5 : ∀ t : Fin cfg0.N, win0_5.index t (0 : Fin 3) = 0 ∧ win0_5.index t (1 : Fin 3) = t.val % 28 ∧ win0_5.index t (2 : Fin 3) = t.val / 28 :=
  (by decide +kernel : ∀ t : Fin grid0.N, _)

theorem index6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb0 (t : Fin cfg0.N) (j : S4x3584.Idx) : ((cfg0.win 0).blk t).view.emb j = j := by
  obtain ⟨e0, e1⟩ := index0 t
  funext a; apply Fin.ext
  match a with
  | ⟨0, _⟩ => show win0_0.index t (0 : Fin 2) * 4 + 1 * (j 0).val = (j 0).val; omega
  | ⟨1, _⟩ => show win0_0.index t (1 : Fin 2) * 3584 + 1 * (j 1).val = (j 1).val; omega

theorem emb1 (t : Fin cfg0.N) (d : Fin 128) (h : Fin 2) (n : Fin 4736) :
    ((cfg0.win 1).blk t).view.emb (ix3 d h n : S128x2x4736.Idx)
      = (ix3 ⟨t.val % 28 * 128 + d.val, by omega⟩ h ⟨t.val / 28 * 4736 + n.val, by have := lt112 t; omega⟩ : S3584x2x18944.Idx) := by
  obtain ⟨e0, e1, e2⟩ := index1 t
  funext a; apply Fin.ext
  match a with
  | ⟨0, _⟩ => show win0_1.index t (0 : Fin 3) * 128 + 1 * d.val = t.val % 28 * 128 + d.val; omega
  | ⟨1, _⟩ => show win0_1.index t (1 : Fin 3) * 2 + 1 * h.val = h.val; omega
  | ⟨2, _⟩ => show win0_1.index t (2 : Fin 3) * 4736 + 1 * n.val = t.val / 28 * 4736 + n.val; omega

theorem emb2 (t : Fin cfg0.N) (r : Fin 4) (n : Fin 4736) :
    ((cfg0.win 2).blk t).view.emb (ix2 r n : S4x4736.Idx)
      = (ix2 r ⟨t.val / 28 * 4736 + n.val, by have := lt112 t; omega⟩ : S4x18944.Idx) := by
  obtain ⟨e0, e1⟩ := index2 t
  funext a; apply Fin.ext
  match a with
  | ⟨0, _⟩ => show win0_2.index t (0 : Fin 2) * 4 + 1 * r.val = r.val; omega
  | ⟨1, _⟩ => show win0_2.index t (1 : Fin 2) * 4736 + 1 * n.val = t.val / 28 * 4736 + n.val; omega

theorem emb3 (t : Fin cfg0.N) (j : S4x3584.Idx) : ((cfg0.win 3).blk t).view.emb j = j := by
  obtain ⟨e0, e1⟩ := index3 t
  funext a; apply Fin.ext
  match a with
  | ⟨0, _⟩ => show win0_3.index t (0 : Fin 2) * 4 + 1 * (j 0).val = (j 0).val; omega
  | ⟨1, _⟩ => show win0_3.index t (1 : Fin 2) * 3584 + 1 * (j 1).val = (j 1).val; omega

theorem emb4 (t : Fin cfg0.N) (j : S4x1x28.Idx) : ((cfg0.win 4).blk t).view.emb j = j := by
  obtain ⟨e0, e1, e2⟩ := index4 t
  funext a; apply Fin.ext
  match a with
  | ⟨0, _⟩ => show win0_4.index t (0 : Fin 3) * 4 + 1 * (j 0).val = (j 0).val; omega
  | ⟨1, _⟩ => show win0_4.index t (1 : Fin 3) * 1 + 1 * (j 1).val = (j 1).val; omega
  | ⟨2, _⟩ => show win0_4.index t (2 : Fin 3) * 28 + 1 * (j 2).val = (j 2).val; omega

theorem emb5 (t : Fin cfg0.N) (h : Fin 2) (d : Fin 128) (n : Fin 4736) :
    ((cfg0.win 5).blk t).view.emb (ix3 h d n : S2x128x4736.Idx)
      = (ix3 h ⟨t.val % 28 * 128 + d.val, by omega⟩ ⟨t.val / 28 * 4736 + n.val, by have := lt112 t; omega⟩ : S2x3584x18944.Idx) := by
  obtain ⟨e0, e1, e2⟩ := index5 t
  funext a; apply Fin.ext
  match a with
  | ⟨0, _⟩ => show win0_5.index t (0 : Fin 3) * 2 + 1 * h.val = h.val; omega
  | ⟨1, _⟩ => show win0_5.index t (1 : Fin 3) * 128 + 1 * d.val = t.val % 28 * 128 + d.val; omega
  | ⟨2, _⟩ => show win0_5.index t (2 : Fin 3) * 4736 + 1 * n.val = t.val / 28 * 4736 + n.val; omega

theorem emb6 (t : Fin cfg0.N) (j : S28x2x148.Idx) : ((cfg0.win 6).blk t).view.emb j = j := by
  obtain ⟨e0, e1, e2⟩ := index6 t
  funext a; apply Fin.ext
  match a with
  | ⟨0, _⟩ => show win0_6.index t (0 : Fin 3) * 28 + 1 * (j 0).val = (j 0).val; omega
  | ⟨1, _⟩ => show win0_6.index t (1 : Fin 3) * 2 + 1 * (j 1).val = (j 1).val; omega
  | ⟨2, _⟩ => show win0_6.index t (2 : Fin 3) * 148 + 1 * (j 2).val = (j 2).val; omega

/-- The host's reshape of the activations. -/
theorem cast_x (x : Vec Ideal S4x1x3584 .bf16) (r : Fin 4) (n : Fin 3584) :
    shapeCast S4x3584 x shapeCasts_S4x1x3584_S4x3584 (ix2 r n) = x (ix3 r 0 n) :=
  shapeCast_apply x _ _ _ (by
    rw [Shape.rowMajor_val_two, Shape.rowMajor_val_three]
    show (r.val * 1 + 0) * 3584 + n.val = r.val * 3584 + n.val
    omega)

/-- A row of the activations, as the host hands it to the kernel. -/
theorem V_main_v0 (c : Dev nD) (r : Fin 4) (n : Fin 3584) :
    V m c main_v0 (ix2 r n : S4x3584.Idx) = m ((c.tc : Thread nD τ).loc main_arg0) (ix3 r 0 n : S4x1x3584.Idx) := by
  have e : V m c main_v0 = shapeCast S4x3584 (m ((c.tc : Thread nD τ).loc main_arg0) : Vec Ideal S4x1x3584 .bf16) shapeCasts_S4x1x3584_S4x3584 := by
    show StableHlo.after hostOps0 _ (Proc.devRef .tc main_v0) = _
    after_results
    rfl
  rw [e]
  exact cast_x _ r n

/-- The activations' block is the activations. -/
theorem X0_apply (c : Dev nD) (r : Fin 4) (n : Fin 3584) :
    X0 m c (ix2 r n) = m ((c.tc : Thread nD τ).loc main_arg0) (ix3 r 0 n : S4x1x3584.Idx) := by
  refine Eq.trans ?_ (V_main_v0 m c r n)
  show V m c main_v0 (((cfg0.win 0).blk ⟨0, N_pos⟩).view.emb (ix2 r n)) = _
  rw [emb0]

/-- The weights' block at a point, by the point's coordinates. -/
theorem W_apply (c : Dev nD) (t : Fin cfg0.N) (d : Fin 128) (h : Fin 2) (n : Fin 4736) :
    W m c t (ix3 d h n) = m ((c.tc : Thread nD τ).loc main_arg1)
      (ix3 ⟨t.val % 28 * 128 + d.val, by omega⟩ h ⟨t.val / 28 * 4736 + n.val, by have := lt112 t; omega⟩ : S3584x2x18944.Idx) := by
  refine Eq.trans ?_ (congrFun (V_main_arg1 m c) _)
  show V m c main_arg1 (((cfg0.win 1).blk t).view.emb (ix3 d h n)) = _
  rw [emb1]

end Cert.KernelIdeal.Hand

end
-- ==== Proof.Closed.lean ====
module

public import proofs.«01_k».proof.Proof.Blocks

@[expose] public section

set_option maxRecDepth 16384

/-! # The kernel's accumulators, in closed form -/

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ)

theorem coord0 (t : Fin cfg0.N) : (grid0.coords t 0).val = t.val / 28 := by
  have : (grid0.coords t 0).val = t.val / 28 % 4 := Pipeline.Grid.coords_val t 0 (by decide) rfl
  have hN := lt112 t
  omega

theorem coord1 (t : Fin cfg0.N) : (grid0.coords t 1).val = t.val % 28 := by
  have : (grid0.coords t 1).val = t.val / 1 % 28 := Pipeline.Grid.coords_val t 1 (by decide) rfl
  omega

theorem pt_lt {j k : ℕ} (hj : j < 4) (hk : k < 28) : j * 28 + k < cfg0.N := by
  have : cfg0.N = 112 := N_0
  omega

/-- The point of column block `j` and contraction block `k`. -/
def pt (j : Fin 4) (k : Fin 28) : Fin cfg0.N := ⟨j.val * 28 + k.val, pt_lt j.isLt k.isLt⟩

/-- The tile scales written up to point `n`. -/
theorem wsN_apply (c : Dev nD) (k : Fin 28) (h : Fin 2) (q : Fin 148) : ∀ (n : ℕ) (hn : n < cfg0.N),
    wsN m c n hn (ix3 k h q) = if q.val / 37 * 28 + k.val ≤ n
      then tsc (W m c (pt ⟨q.val / 37, by omega⟩ k)) h ⟨q.val % 37, by omega⟩ else (0 : EReal)
  | 0, hn => by
    show wsAt (grid0.coords ⟨0, hn⟩ 0).val (grid0.coords ⟨0, hn⟩ 1).val (W m c ⟨0, hn⟩) (fun _ => (0 : EReal)) k h q = _
    unfold wsAt
    rw [coord0, coord1]
    by_cases hc : q.val / 37 * 28 + k.val ≤ 0
    · rw [if_pos hc, if_pos (show k.val = 0 % 28 ∧ q.val / 37 = 0 / 28 by omega)]
      rw [show pt ⟨q.val / 37, by omega⟩ k = ⟨0, hn⟩ from Fin.ext (by show q.val / 37 * 28 + k.val = 0; omega)]
    · rw [if_neg hc, if_neg (show ¬(k.val = 0 % 28 ∧ q.val / 37 = 0 / 28) by omega)]
  | n + 1, hn => by
    show wsAt (grid0.coords ⟨n + 1, hn⟩ 0).val (grid0.coords ⟨n + 1, hn⟩ 1).val (W m c ⟨n + 1, hn⟩) (wsN m c n (Nat.lt_of_succ_lt hn)) k h q = _
    unfold wsAt
    rw [coord0, coord1]
    dsimp only
    by_cases hc : k.val = (n + 1) % 28 ∧ q.val / 37 = (n + 1) / 28
    · rw [if_pos hc, if_pos (show q.val / 37 * 28 + k.val ≤ n + 1 by omega)]
      rw [show pt ⟨q.val / 37, by omega⟩ k = ⟨n + 1, hn⟩ from Fin.ext (by show q.val / 37 * 28 + k.val = n + 1; omega)]
    · rw [if_neg hc, wsN_apply c k h q n (Nat.lt_of_succ_lt hn)]
      by_cases hd : q.val / 37 * 28 + k.val ≤ n
      · rw [if_pos hd, if_pos (show q.val / 37 * 28 + k.val ≤ n + 1 by omega)]
      · rw [if_neg hd, if_neg (show ¬q.val / 37 * 28 + k.val ≤ n + 1 by omega)]

/-- One contraction block's share of an entry of the product. -/
def share (c : Dev nD) (j : Fin 4) (h : Fin 2) (r : Fin 8) (n : Fin 4736) (k : ℕ) : EReal :=
  if hk : k < 28 then
    (∑ d : Fin 128, xwT m c (pt j ⟨k, hk⟩) ⟨r.val, by omega⟩ d * wcAt (W m c (pt j ⟨k, hk⟩)) h d n) * tsc (W m c (pt j ⟨k, hk⟩)) h ⟨n.val / 128, by omega⟩
  else 0

/-- The accumulator after contraction block `k` of column block `j`. -/
theorem accN_apply (c : Dev nD) (j : Fin 4) (h : Fin 2) (r : Fin 8) (n : Fin 4736) : ∀ (k : ℕ) (hk : k < 28),
    accN m c (pt j ⟨k, hk⟩).val (pt j ⟨k, hk⟩).isLt (ix3 h r n) = ∑ i ∈ Finset.range (k + 1), share m c j h r n i
  | 0, hk => by
    rw [accN_reset m c (pt j ⟨0, hk⟩) (by show (j.val * 28 + 0) % 28 = 0; omega), Finset.sum_range_one, share, dif_pos hk]
    exact zero_add _
  | k + 1, hk => by
    have hk' : k < 28 := by omega
    rw [accN_go m c (pt j ⟨k + 1, hk⟩) (by show ¬(j.val * 28 + (k + 1)) % 28 = 0; omega), Finset.sum_range_succ, share, dif_pos hk,
      ← accN_apply c j h r n k hk']
    rfl

/-- The accumulator at the last contraction block. -/
theorem accN_last (c : Dev nD) (j : Fin 4) (h : Fin 2) (r : Fin 8) (n : Fin 4736) :
    accN m c (pt j 27).val (pt j 27).isLt (ix3 h r n) = ∑ k : Fin 28,
      (∑ d : Fin 128, xwT m c (pt j k) ⟨r.val, by omega⟩ d * wcAt (W m c (pt j k)) h d n) * tsc (W m c (pt j k)) h ⟨n.val / 128, by omega⟩ := by
  rw [show (27 : Fin 28) = ⟨27, by omega⟩ from rfl, accN_apply, Finset.sum_range]
  exact Finset.sum_congr rfl fun k _ => dif_pos k.isLt

end Cert.KernelIdeal.Hand

end
-- ==== Proof.BodyLemmas.lean ====
module

public import proofs.«01_k».proof.Proof.Data

@[expose] public section

set_option maxRecDepth 16384

/-! # The kernel's body does what the proof data say -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the point's load of the dequantised input reads, once the scratch buffer holds it. -/
theorem ldXw_old (c : Dev nD) (t : Fin cfg0.N) (f : scM0_0.view.ty.Contents (Elt Ideal)) (hf : scM0_0.view.read (Elt Ideal) f = xwF (X0 m c)) :
    (fun r d => ldXw (grid0.coords t) scM0_0 f (ix3 0 r d)) = xwT m c t := by
  funext r d
  exact ldXw_apply (grid0.coords t) scM0_0 f (X0 m c) hf r d

/-- The stored scales of the input. -/
theorem read_xScales (arg2 : Memref sig .tc .vmem S4x3584 .bf16) (harg2 : arg2.IsWhole) (x0 : Vec Ideal S4x3584 .bf16)
    (arg6 : Memref sig .tc .vmem S4x1x28 .f32) (f : arg6.view.ty.Contents (Elt Ideal)) :
    arg6.view.read (Elt Ideal) (arg6.view.writes (Elt Ideal) f [⟨Rect.unit (s := S4x1x28) ![0, 0, 0] S4x1x28.size inb_S4x1x28_S4x1x28_0_0_0, xsV (ldX arg2 harg2 x0)⟩]) = xsF x0 := by
  rw [← xsV_ldX arg2 harg2 x0]
  funext y
  refine View.read_writes_cons_unit_of_mem _ _ _ _ _ y y zeros3 (fun a => ?_)
  exact (Nat.zero_add _).symm

theorem wsN_first (c : Dev nD) (t : Fin cfg0.N) (hz : t.val = 0) :
    wsN m c t.val t.isLt = wsStep (grid0.coords t 0).val (grid0.coords t 1).val (W m c t) (fun _ => (0 : EReal)) := by
  obtain ⟨n, hn⟩ := t
  dsimp only at hz
  subst hz
  rfl

theorem emb_y0 (r : Fin 4) (n : Fin 4736) :
    (Rect.unit (s := S2x8x4736) ![0, 0, 0] S1x4x4736.size inb_S2x8x4736_S1x4x4736_0_0_0).emb (ix3 0 r n) = ix3 0 ⟨r.val, by omega⟩ n :=
  Rect.emb_eq_of_coords _ _ _ fun a => match a with
    | ⟨0, _⟩ => by show 0 = 0 + 1 * 0; rfl
    | ⟨1, _⟩ => by show r.val = 0 + 1 * r.val; omega
    | ⟨2, _⟩ => by show n.val = 0 + 1 * n.val; omega

theorem emb_y1 (r : Fin 4) (n : Fin 4736) :
    (Rect.unit (s := S2x8x4736) ![1, 0, 0] S1x4x4736.size inb_S2x8x4736_S1x4x4736_1_0_0).emb (ix3 0 r n) = ix3 1 ⟨r.val, by omega⟩ n :=
  Rect.emb_eq_of_coords _ _ _ fun a => match a with
    | ⟨0, _⟩ => by show 1 = 1 + 1 * 0; rfl
    | ⟨1, _⟩ => by show r.val = 0 + 1 * r.val; omega
    | ⟨2, _⟩ => by show n.val = 0 + 1 * n.val; omega

theorem zeros2 : (![0, 0] : Fin 2 → ℕ) = fun _ => 0 := by
  funext a
  match a with
  | 0 => rfl
  | 1 => rfl

/-- The stored result is the gated accumulator. -/
theorem read_gated (A : Vec Ideal S2x8x4736 .f32) (a b : Vec Ideal S1x4x4736 .f32)
    (ha : ∀ x, a x = A ((Rect.unit (s := S2x8x4736) ![0, 0, 0] S1x4x4736.size inb_S2x8x4736_S1x4x4736_0_0_0).emb x))
    (hb : ∀ x, b x = A ((Rect.unit (s := S2x8x4736) ![1, 0, 0] S1x4x4736.size inb_S2x8x4736_S1x4x4736_1_0_0).emb x))
    (arg4 : Memref sig .tc .vmem S4x4736 .bf16) (f : arg4.view.ty.Contents (Elt Ideal)) :
    arg4.view.read (Elt Ideal) (arg4.view.writes (Elt Ideal) f [⟨Rect.unit (s := S4x4736) ![0, 0] S4x4736.size inb_S4x4736_S4x4736_0_0, k0_pay3 (F := Ideal) a b⟩]) = yF A := by
  have e : k0_pay3 (F := Ideal) a b = yF A := y_eq A a b (fun r n => by rw [ha, emb_y0]) (fun r n => by rw [hb, emb_y1])
  rw [e]
  funext y
  refine View.read_writes_cons_unit_of_mem _ _ _ _ _ y y zeros2 (fun a => ?_)
  exact (Nat.zero_add _).symm

/-- The stored result of a point's accumulator. -/
theorem read_y (arg3 : Memref sig .tc .vmem S128x2x4736 .bf16) (harg3 : arg3.IsWhole) (arg7 : Memref sig .tc .vmem S2x128x4736 .fp8e4m3)
    (arg10 : Memref sig .tc .vmem S2x8x4736 .f32) (harg10 : arg10.IsWhole) (x1 : Vec Ideal S128x2x4736 .bf16) (P : Vec Ideal S2x8x4736 .f32)
    (xw : Vec Ideal S1x16x128 .bf16) (arg4 : Memref sig .tc .vmem S4x4736 .bf16) (f : arg4.view.ty.Contents (Elt Ideal)) :
    arg4.view.read (Elt Ideal) (arg4.view.writes (Elt Ideal) f [⟨Rect.unit (s := S4x4736) ![0, 0] S4x4736.size inb_S4x4736_S4x4736_0_0,
      k0_pay3 (F := Ideal) (arg10.view.readCov (accStores arg7 (ldW arg3 harg3 x1) xw (rdOld arg10 harg10 P) []) (Rect.unit (s := S2x8x4736) ![0, 0, 0] S1x4x4736.size inb_S2x8x4736_S1x4x4736_0_0_0).toLoadRect)
        (arg10.view.readCov (accStores arg7 (ldW arg3 harg3 x1) xw (rdOld arg10 harg10 P) []) (Rect.unit (s := S2x8x4736) ![1, 0, 0] S1x4x4736.size inb_S2x8x4736_S1x4x4736_1_0_0).toLoadRect)⟩])
      = yF (accStep (fun r d => xw (ix3 0 r d)) x1 P) :=
  read_gated _ _ _ (readCov_acc_old arg3 harg3 arg7 arg10 harg10 x1 P xw (Rect.unit (s := S2x8x4736) ![0, 0, 0] S1x4x4736.size inb_S2x8x4736_S1x4x4736_0_0_0))
    (readCov_acc_old arg3 harg3 arg7 arg10 harg10 x1 P xw (Rect.unit (s := S2x8x4736) ![1, 0, 0] S1x4x4736.size inb_S2x8x4736_S1x4x4736_1_0_0)) arg4 f

end Cert.KernelIdeal.Hand

end
-- ==== Proof.BodyA.lean ====
module

public import proofs.«01_k».proof.Proof.BodyLemmas

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body at the first point. -/
theorem soundA (c : Dev nD) (t : Fin cfg0.N) (h0 : t.val % 112 = 0) (h1 : t.val % 28 = 0) (h2 : ¬t.val % 28 = 27) :
    bodyPre m c t ⊢ wp frame (wpE (defs₀ (F := Ideal)) Variants.none c none) Set.univ (bodyAt0 t) (fun _ => bodyPost m c t) := by
  have hN := lt112 t
  have hz : t.val = 0 := by omega
  have eX : iblk m c 0 t = X0 m c := by obtain ⟨n, hn⟩ := t; dsimp only at hz; subst hz; rfl
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves5, leaves6]
  rw [leaves2_idle m c t h2]
  simp only [before0_0, before0_1]
  rw [PhiS_castSucc m c t, PhiS_zero m c _ _ hz, PhiA0_eq, accN_reset m c t h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runA (F := Ideal) c (grid0.coords t) _ _ _ _ _ _ _ _ _ _ _ _ _ _ _ _ _ _ ((hcond0_0 t).mpr h0) ((hcond0_1 t).mpr h1) (fun h => h2 ((hcond0_2 t).mp h)) (iblk m c 0 t) (W m c t) _).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, ⟨%e3, H3⟩, ⟨%e4, H4⟩, ⟨%e5, H5⟩, ⟨%e6, H6⟩, ⟨%es0, HS0⟩, ⟨%es1, HS1⟩⟩
  isplitl [HS0 HS1 Hg]
  · isplitl [HS0 HS1]
    · isplitl [HS0]
      · unfold owns; iexists _; isplitr
        swap; · iexact HS0
        ipureintro
        rw [runA_xw, ← eX]; exact read_xwList _ _ _ _ _
      unfold owns; iexists _; isplitr
      swap; · iexact HS1
      ipureintro
      rw [runA_acc]
      exact (read_acc_zero _ _ _ _ _ _ _).trans (congrArg (fun x => accStep x (W m c t) _) (ldXw_old m c t _ (by rw [← eX]; exact read_xwList _ _ _ _ _)))
    iexact Hg
  isplitl [Ho]; · iexact Ho
  isplitl [H0]; · iexact H0
  isplitl [H1]; · iexact H1
  isplitl [H2]; · iexists _; iexact H2
  isplitl [H3]
  · iapply (leaves3 m c t)
    unfold owns; iexists _; isplitr
    swap; · iexact H3
    ipureintro
    rw [runA_xc, ← eX]; exact read_xCodeList _ _ _ _ _
  isplitl [H4]
  · iapply (leaves4 m c t)
    unfold owns; iexists _; isplitr
    swap; · iexact H4
    ipureintro
    rw [runA_xs, ← eX]; exact read_xScales _ _ _ _ _
  isplitl [H5]
  · unfold owns; iexists _; isplitr
    swap; · iexact H5
    ipureintro
    rw [runA_codes]; exact read_codeList _ _ _ _ _
  unfold owns; iexists _; isplitr
  swap; · iexact H6
  ipureintro
  rw [runA_rows]
  refine (read_rowList (grid0.coords t) _ _ _ _ _ _ _ (fun _ => (0 : EReal)) (read_wsZero _ _) (read_wsZero _ _)).trans ?_
  exact (wsN_first m c t hz).symm

end Cert.KernelIdeal.Hand

end
-- ==== Proof.BodyB.lean ====
module

public import proofs.«01_k».proof.Proof.BodyLemmas

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body in the middle of a contraction. -/
theorem soundB (c : Dev nD) (t : Fin cfg0.N) (h0 : ¬t.val % 112 = 0) (h1 : ¬t.val % 28 = 0) (h2 : ¬t.val % 28 = 27) :
    bodyPre m c t ⊢ wp frame (wpE (defs₀ (F := Ideal)) Variants.none c none) Set.univ (bodyAt0 t) (fun _ => bodyPost m c t) := by
  have hN := lt112 t
  have hz : t.val ≠ 0 := fun h => h0 (by rw [h])
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves5, leaves6]
  rw [leaves2_idle m c t h2]
  simp only [before0_0, before0_1]
  have e3 : ∀ d, (dats m 0 c).before 3 t d = xcF (X0 m c) := before0_3 m c t.val t.isLt hz
  have e4 : ∀ d, (dats m 0 c).before 4 t d = xsF (X0 m c) := before0_4 m c t.val t.isLt hz
  simp only [e3, e4, before0_6 m c t hz]
  rw [PhiS_castSucc m c t, PhiS_pos m c _ _ hz, wsN_go m c t hz, accN_go m c t h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runB (F := Ideal) c (grid0.coords t) _ _ _ _ _ _ _ _ _ _ _ _ _ _ _ _ _ _ (fun h => h0 ((hcond0_0 t).mp h)) (fun h => h1 ((hcond0_1 t).mp h)) (fun h => h2 ((hcond0_2 t).mp h)) (iblk m c 0 t) (W m c t) _ _ _ _ _ _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  iintro ⟨H0, H1, H2, H3, H4, ⟨%e5, H5⟩, H6, HS0, ⟨%es1, HS1⟩⟩
  isplitl [HS0 HS1 Hg]
  · isplitl [HS0 HS1]
    · isplitl [HS0]
      · iexact HS0
      unfold owns; iexists _; isplitr
      swap; · iexact HS1
      ipureintro
      rw [runB_acc]
      exact (read_acc_old _ _ _ _ _ _ _ _ _).trans (congrArg (fun x => accStep x (W m c t) _) (ldXw_old m c t _ (Memref.IsWhole.read_unread _ _)))
    iexact Hg
  isplitl [Ho]; · iexact Ho
  isplitl [H0]; · iexact H0
  isplitl [H1]; · iexact H1
  isplitl [H2]; · iexists _; iexact H2
  isplitl [H3]; · iapply (leaves3 m c t); iexact H3
  isplitl [H4]; · iapply (leaves4 m c t); iexact H4
  isplitl [H5]
  · unfold owns; iexists _; isplitr
    swap; · iexact H5
    ipureintro
    rw [runB_codes]; exact read_codeList _ _ _ _ _
  unfold owns; iexists _; isplitr
  swap; · iexact H6
  ipureintro
  rw [runB_rows]
  exact read_rowList (grid0.coords t) _ _ _ _ _ _ _ _ (fun y => congrFun (Memref.IsWhole.read_unread _ _) y) (fun y => congrFun (Memref.IsWhole.read_unread _ _) y)

end Cert.KernelIdeal.Hand

end
-- ==== Proof.BodyC.lean ====
module

public import proofs.«01_k».proof.Proof.BodyLemmas

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body at the end of a contraction. -/
theorem soundC (c : Dev nD) (t : Fin cfg0.N) (h0 : ¬t.val % 112 = 0) (h1 : ¬t.val % 28 = 0) (h2 : t.val % 28 = 27) :
    bodyPre m c t ⊢ wp frame (wpE (defs₀ (F := Ideal)) Variants.none c none) Set.univ (bodyAt0 t) (fun _ => bodyPost m c t) := by
  have hN := lt112 t
  have hz : t.val ≠ 0 := fun h => h0 (by rw [h])
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves5, leaves6]
  rw [leaves2_live m c t h2]
  simp only [before0_0, before0_1]
  have e3 : ∀ d, (dats m 0 c).before 3 t d = xcF (X0 m c) := before0_3 m c t.val t.isLt hz
  have e4 : ∀ d, (dats m 0 c).before 4 t d = xsF (X0 m c) := before0_4 m c t.val t.isLt hz
  simp only [e3, e4, before0_6 m c t hz]
  rw [PhiS_castSucc m c t, PhiS_pos m c _ _ hz, wsN_go m c t hz, accN_go m c t h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runC (F := Ideal) c (grid0.coords t) _ _ _ _ _ _ _ _ _ _ _ _ _ _ _ _ _ _ (fun h => h0 ((hcond0_0 t).mp h)) (fun h => h1 ((hcond0_1 t).mp h)) ((hcond0_2 t).mpr h2) (iblk m c 0 t) (W m c t) _ _ _ _ _).2.2.2.2 Set.univ _)
  isplitl [H0]; · iexact H0
  isplitl [H1]; · iexact H1
  isplitl [H2]; · iexists _; iexact H2
  isplitl [H3]; · iexact H3
  isplitl [H4]; · iexact H4
  isplitl [H5]; · iexists _; iexact H5
  isplitl [H6]; · iexact H6
  isplitl [HS0]; · iexact HS0
  isplitl [HS1]; · iexact HS1
  iintro ⟨H0, H1, ⟨%e2, H2⟩, H3, H4, ⟨%e5, H5⟩, H6, HS0, ⟨%es1, HS1⟩⟩
  isplitl [HS0 HS1 Hg]
  · isplitl [HS0 HS1]
    · isplitl [HS0]
      · iexact HS0
      unfold owns; iexists _; isplitr
      swap; · iexact HS1
      ipureintro
      rw [runC_acc]
      exact (read_acc_old _ _ _ _ _ _ _ _ _).trans (congrArg (fun x => accStep x (W m c t) _) (ldXw_old m c t _ (Memref.IsWhole.read_unread _ _)))
    iexact Hg
  isplitl [Ho]; · iexact Ho
  isplitl [H0]; · iexact H0
  isplitl [H1]; · iexact H1
  isplitl [H2]
  · unfold owns; iexists _; isplitr
    swap; · iexact H2
    ipureintro
    rw [runC_y]
    exact (read_y _ _ _ _ _ _ _ _ _ _).trans (congrArg (fun x => yF (accStep x (W m c t) _)) (ldXw_old m c t _ (Memref.IsWhole.read_unread _ _)))
  isplitl [H3]; · iapply (leaves3 m c t); iexact H3
  isplitl [H4]; · iapply (leaves4 m c t); iexact H4
  isplitl [H5]
  · unfold owns; iexists _; isplitr
    swap; · iexact H5
    ipureintro
    rw [runC_codes]; exact read_codeList _ _ _ _ _
  unfold owns; iexists _; isplitr
  swap; · iexact H6
  ipureintro
  rw [runC_rows]
  exact read_rowList (grid0.coords t) _ _ _ _ _ _ _ _ (fun y => congrFun (Memref.IsWhole.read_unread _ _) y) (fun y => congrFun (Memref.IsWhole.read_unread _ _) y)

end Cert.KernelIdeal.Hand

end
-- ==== Proof.BodyD.lean ====
module

public import proofs.«01_k».proof.Proof.BodyLemmas

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option maxHeartbeats 6400000 in
/-- The body at the start of a later contraction. -/
theorem soundD (c : Dev nD) (t : Fin cfg0.N) (h0 : ¬t.val % 112 = 0) (h1 : t.val % 28 = 0) (h2 : ¬t.val % 28 = 27) :
    bodyPre m c t ⊢ wp frame (wpE (defs₀ (F := Ideal)) Variants.none c none) Set.univ (bodyAt0 t) (fun _ => bodyPost m c t) := by
  have hN := lt112 t
  have hz : t.val ≠ 0 := fun h => h0 (by rw [h])
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves5, leaves6]
  rw [leaves2_idle m c t h2]
  simp only [before0_0, before0_1]
  have e3 : ∀ d, (dats m 0 c).before 3 t d = xcF (X0 m c) := before0_3 m c t.val t.isLt hz
  have e4 : ∀ d, (dats m 0 c).before 4 t d = xsF (X0 m c) := before0_4 m c t.val t.isLt hz
  simp only [e3, e4, before0_6 m c t hz]
  rw [PhiS_castSucc m c t, PhiS_pos m c _ _ hz, wsN_go m c t hz, accN_reset m c t h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((runD (F := Ideal) c (grid0.coords t) _ _ _ _ _ _ _ _ _ _ _ _ _ _ _ _ _ _ (fun h => h0 ((hcond0_0 t).mp h)) ((hcond0_1 t).mpr h1) (fun h => h2 ((hcond0_2 t).mp h)) (iblk m c 0 t) (W m c t) _ _ _ _ _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexists _; iexact HS1
  iintro ⟨H0, H1, H2, H3, H4, ⟨%e5, H5⟩, H6, HS0, ⟨%es1, HS1⟩⟩
  isplitl [HS0 HS1 Hg]
  · isplitl [HS0 HS1]
    · isplitl [HS0]
      · iexact HS0
      unfold owns; iexists _; isplitr
      swap; · iexact HS1
      ipureintro
      rw [runD_acc]
      exact (read_acc_zero _ _ _ _ _ _ _).trans (congrArg (fun x => accStep x (W m c t) _) (ldXw_old m c t _ (Memref.IsWhole.read_unread _ _)))
    iexact Hg
  isplitl [Ho]; · iexact Ho
  isplitl [H0]; · iexact H0
  isplitl [H1]; · iexact H1
  isplitl [H2]; · iexists _; iexact H2
  isplitl [H3]; · iapply (leaves3 m c t); iexact H3
  isplitl [H4]; · iapply (leaves4 m c t); iexact H4
  isplitl [H5]
  · unfold owns; iexists _; isplitr
    swap; · iexact H5
    ipureintro
    rw [runD_codes]; exact read_codeList _ _ _ _ _
  unfold owns; iexists _; isplitr
  swap; · iexact H6
  ipureintro
  rw [runD_rows]
  exact read_rowList (grid0.coords t) _ _ _ _ _ _ _ _ (fun y => congrFun (Memref.IsWhole.read_unread _ _) y) (fun y => congrFun (Memref.IsWhole.read_unread _ _) y)

end Cert.KernelIdeal.Hand

end
-- ==== Proof.Run.lean ====
module

public import proofs.«01_k».proof.Proof.BodyA
public import proofs.«01_k».proof.Proof.BodyB
public import proofs.«01_k».proof.Proof.BodyC
public import proofs.«01_k».proof.Proof.BodyD
public import Idealize.ShloMosaic.Lib.Claim

@[expose] public section

set_option maxRecDepth 16384

/-! # The kernel's run -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN := lt112 t
  by_cases h0 : t.val % 112 = 0
  · exact soundA m c t h0 (by omega) (by omega)
  · by_cases h1 : t.val % 28 = 0
    · exact soundD m c t h0 h1 (by omega)
    · by_cases h2 : t.val % 28 = 27
      · exact soundC m c t h0 h1 h2
      · exact soundB m c t h0 h1 h2

theorem defs₀_row (t : Fin cfg0.N) :
    defs₀ (F := Ideal) .tc cfg0.body (cfg0.bodyArgs t (cfg0.slots t)) = bodyAt0 t := by
  unfold defs₀; rw [Defs.onTc_tc]

/-- The body's obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 112 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every execution ends, with every array at what the proof data say and no semaphore raised. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and no semaphore raised. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Final.lean ====
module

public import proofs.«01_k».proof.Proof.Closed
public import proofs.«01_k».proof.Proof.Run

@[expose] public section

set_option maxRecDepth 16384

/-! # The kernel's arrays after the run -/

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (ρ : Dev nD → PrngReg)

/-- The last point. -/
def lastPt : Fin cfg0.N := pt 3 27

/-! ## The products -/

/-- One entry of the gated product. -/
def yEntry (c : Dev nD) (r : Fin 4) (n : Fin 18944) : EReal :=
  yF (accN m c (pt ⟨n.val / 4736, by omega⟩ 27).val (pt ⟨n.val / 4736, by omega⟩ 27).isLt) (ix2 r ⟨n.val % 4736, by omega⟩)

/-- The gated product. -/
def yArr (c : Dev nD) : Vec Ideal S4x18944 .bf16 := fun y => yEntry m c (y 0) (y 1)

theorem flushed2 (c : Dev nD) (t : Fin cfg0.N) (ht : (cfg0.win 2).flush t = true) :
    (dats m 0 c).flushed 2 t = ((cfg0.win 2).blk t).view.read (Elt Ideal) (yArr m c) := by
  show (cfg0.win 2).cut (grid0.coords t) ((dats m 0 c).after 2 t) = _
  rw [after0_2]
  have h27 := (flush0_2 t).1 ht
  have hN := lt112 t
  have key : ∀ (r : Fin 4) (n : Fin 4736), yF (accN m c t.val t.isLt) (ix2 r n) = yArr m c (((cfg0.win 2).blk t).view.emb (ix2 r n : S4x4736.Idx)) := fun r n => by
    rw [emb2]
    show _ = yEntry m c r ⟨t.val / 28 * 4736 + n.val, _⟩
    unfold yEntry
    have e : t = pt ⟨(t.val / 28 * 4736 + n.val) / 4736, by omega⟩ 27 := Fin.ext (by show t.val = (t.val / 28 * 4736 + n.val) / 4736 * 28 + 27; omega)
    have e' : (⟨(t.val / 28 * 4736 + n.val) % 4736, by omega⟩ : Fin 4736) = n := Fin.ext (by show (t.val / 28 * 4736 + n.val) % 4736 = n.val; omega)
    exact congrArg₂ (fun (u : Fin cfg0.N) (q : Fin 4736) => yF (accN m c u.val u.isLt) (ix2 r q)) e e'.symm
  funext (j : S4x4736.Idx)
  show yF (accN m c t.val t.isLt) j = yArr m c (((cfg0.win 2).blk t).view.emb j)
  rw [eq_ix2 j]
  exact key _ _

theorem covered2 (i : S4x18944.Idx) :
    ∃ t : Fin cfg0.N, (cfg0.win 2).flush t = true ∧ i ∈ ((cfg0.win 2).blk t).view.set := by
  have key : ∀ (r : Fin 4) (n : Fin 18944), ∃ t : Fin cfg0.N, (cfg0.win 2).flush t = true ∧ (ix2 r n : S4x18944.Idx) ∈ ((cfg0.win 2).blk t).view.set := fun r n => by
    refine ⟨pt ⟨n.val / 4736, by omega⟩ 27, (flush0_2 _).2 (by show (n.val / 4736 * 28 + 27) % 28 = 27; omega), ?_⟩
    have h := ((cfg0.win 2).blk (pt ⟨n.val / 4736, by omega⟩ 27)).view.emb_mem_set (ix2 r ⟨n.val % 4736, by omega⟩ : S4x4736.Idx)
    rw [emb2] at h
    have e : (⟨(pt ⟨n.val / 4736, by omega⟩ 27).val / 28 * 4736 + n.val % 4736, by show (n.val / 4736 * 28 + 27) / 28 * 4736 + n.val % 4736 < 18944; omega⟩ : Fin 18944) = n :=
      Fin.ext (by show (n.val / 4736 * 28 + 27) / 28 * 4736 + n.val % 4736 = n.val; omega)
    dsimp only at h
    rwa [e] at h
  rw [eq_ix2 i]
  exact key _ _

theorem final2 (c : Dev nD) : (dats m 0 c).arrAt 2 cfg0.N = yArr m c :=
  (dats m 0 c).arrAt_eq_of_cover 2 (yArr m c) (fun t ht => flushed2 m c t ht) covered2

/-! ## The codes and the scales of the activations -/

theorem flush_last {t : Fin cfg0.N} (h : t.val % 112 = 111) : t = lastPt :=
  Fin.ext (by have := lt112 t; show t.val = 3 * 28 + 27; omega)

theorem final3 (c : Dev nD) : (dats m 0 c).arrAt 3 cfg0.N = xcF (X0 m c) := by
  refine (dats m 0 c).arrAt_eq_of_cover 3 (xcF (X0 m c)) (fun t _ => ?_) fun i => ?_
  · show (cfg0.win 3).cut (grid0.coords t) ((dats m 0 c).after 3 t) = _
    rw [after0_3]
    funext (j : S4x3584.Idx)
    show xcF (X0 m c) j = xcF (X0 m c) (((cfg0.win 3).blk t).view.emb j)
    rw [emb3]
  · have h := ((cfg0.win 3).blk lastPt).view.emb_mem_set i
    rw [emb3] at h
    exact ⟨lastPt, (flush0_3 _).2 (by show (3 * 28 + 27) % 112 = 111; omega), h⟩

theorem final4 (c : Dev nD) : (dats m 0 c).arrAt 4 cfg0.N = xsF (X0 m c) := by
  refine (dats m 0 c).arrAt_eq_of_cover 4 (xsF (X0 m c)) (fun t _ => ?_) fun i => ?_
  · show (cfg0.win 4).cut (grid0.coords t) ((dats m 0 c).after 4 t) = _
    rw [after0_4]
    funext (j : S4x1x28.Idx)
    show xsF (X0 m c) j = xsF (X0 m c) (((cfg0.win 4).blk t).view.emb j)
    rw [emb4]
  · have h := ((cfg0.win 4).blk lastPt).view.emb_mem_set i
    rw [emb4] at h
    exact ⟨lastPt, (flush0_4 _).2 (by show (3 * 28 + 27) % 112 = 111; omega), h⟩

/-! ## The codes of the weights -/

/-- One code of the weights. -/
def wcEntry (c : Dev nD) (h : Fin 2) (i : Fin 3584) (n : Fin 18944) : EReal :=
  wcAt (W m c (pt ⟨n.val / 4736, by omega⟩ ⟨i.val / 128, by omega⟩)) h ⟨i.val % 128, by omega⟩ ⟨n.val % 4736, by omega⟩

/-- The codes of the weights. -/
def wcArr (c : Dev nD) : Vec Ideal S2x3584x18944 .fp8e4m3 := fun y => wcEntry m c (y 0) (y 1) (y 2)

theorem flushed5 (c : Dev nD) (t : Fin cfg0.N) :
    (dats m 0 c).flushed 5 t = ((cfg0.win 5).blk t).view.read (Elt Ideal) (wcArr m c) := by
  show (cfg0.win 5).cut (grid0.coords t) ((dats m 0 c).after 5 t) = _
  rw [after0_5]
  have hN := lt112 t
  have key : ∀ (h : Fin 2) (d : Fin 128) (n : Fin 4736), wcF (W m c t) (ix3 h d n) = wcArr m c (((cfg0.win 5).blk t).view.emb (ix3 h d n : S2x128x4736.Idx)) := fun h d n => by
    rw [emb5]
    show wcAt (W m c t) h d n = wcEntry m c h ⟨t.val % 28 * 128 + d.val, _⟩ ⟨t.val / 28 * 4736 + n.val, _⟩
    unfold wcEntry
    have e : t = pt ⟨(t.val / 28 * 4736 + n.val) / 4736, by omega⟩ ⟨(t.val % 28 * 128 + d.val) / 128, by omega⟩ :=
      Fin.ext (by show t.val = (t.val / 28 * 4736 + n.val) / 4736 * 28 + (t.val % 28 * 128 + d.val) / 128; omega)
    have e' : (⟨(t.val / 28 * 4736 + n.val) % 4736, by omega⟩ : Fin 4736) = n := Fin.ext (by show (t.val / 28 * 4736 + n.val) % 4736 = n.val; omega)
    have e'' : (⟨(t.val % 28 * 128 + d.val) % 128, by omega⟩ : Fin 128) = d := Fin.ext (by show (t.val % 28 * 128 + d.val) % 128 = d.val; omega)
    dsimp only
    rw [← e, e', e'']
  funext (j : S2x128x4736.Idx)
  show wcF (W m c t) j = wcArr m c (((cfg0.win 5).blk t).view.emb j)
  rw [eq_ix3 j]
  exact key _ _ _

theorem covered5 (i : S2x3584x18944.Idx) :
    ∃ t : Fin cfg0.N, (cfg0.win 5).flush t = true ∧ i ∈ ((cfg0.win 5).blk t).view.set := by
  have key : ∀ (h : Fin 2) (i : Fin 3584) (n : Fin 18944), ∃ t : Fin cfg0.N, (cfg0.win 5).flush t = true ∧ (ix3 h i n : S2x3584x18944.Idx) ∈ ((cfg0.win 5).blk t).view.set := fun h i n => by
    refine ⟨pt ⟨n.val / 4736, by omega⟩ ⟨i.val / 128, by omega⟩, flush0_5 _, ?_⟩
    have hm := ((cfg0.win 5).blk (pt ⟨n.val / 4736, by omega⟩ ⟨i.val / 128, by omega⟩)).view.emb_mem_set (ix3 h ⟨i.val % 128, by omega⟩ ⟨n.val % 4736, by omega⟩ : S2x128x4736.Idx)
    rw [emb5] at hm
    have e : (⟨(pt ⟨n.val / 4736, by omega⟩ ⟨i.val / 128, by omega⟩).val / 28 * 4736 + n.val % 4736, by show (n.val / 4736 * 28 + i.val / 128) / 28 * 4736 + n.val % 4736 < 18944; omega⟩ : Fin 18944) = n :=
      Fin.ext (by show (n.val / 4736 * 28 + i.val / 128) / 28 * 4736 + n.val % 4736 = n.val; omega)
    have e' : (⟨(pt ⟨n.val / 4736, by omega⟩ ⟨i.val / 128, by omega⟩).val % 28 * 128 + i.val % 128, by show (n.val / 4736 * 28 + i.val / 128) % 28 * 128 + i.val % 128 < 3584; omega⟩ : Fin 3584) = i :=
      Fin.ext (by show (n.val / 4736 * 28 + i.val / 128) % 28 * 128 + i.val % 128 = i.val; omega)
    dsimp only at hm
    rwa [e, e'] at hm
  rw [eq_ix3 i]
  exact key _ _ _

theorem final5 (c : Dev nD) : (dats m 0 c).arrAt 5 cfg0.N = wcArr m c :=
  (dats m 0 c).arrAt_eq_of_cover 5 (wcArr m c) (fun t _ => flushed5 m c t) covered5

/-! ## The scales of the weights -/

theorem final6 (c : Dev nD) : (dats m 0 c).arrAt 6 cfg0.N = wsN m c lastPt.val lastPt.isLt := by
  refine (dats m 0 c).arrAt_eq_of_cover 6 (wsN m c lastPt.val lastPt.isLt) (fun t ht => ?_) fun i => ?_
  · show (cfg0.win 6).cut (grid0.coords t) ((dats m 0 c).after 6 t) = _
    rw [after0_6, flush_last ((flush0_6 t).1 ht)]
    funext (j : S28x2x148.Idx)
    show wsN m c lastPt.val lastPt.isLt j = wsN m c lastPt.val lastPt.isLt (((cfg0.win 6).blk lastPt).view.emb j)
    rw [emb6]
  · have h := ((cfg0.win 6).blk lastPt).view.emb_mem_set i
    rw [emb6] at h
    exact ⟨lastPt, (flush0_6 _).2 (by show (3 * 28 + 27) % 112 = 111; omega), h⟩

/-- The scales of the weights, entry by entry. -/
theorem ws_last (c : Dev nD) (k : Fin 28) (h : Fin 2) (q : Fin 148) :
    wsN m c lastPt.val lastPt.isLt (ix3 k h q) = tsc (W m c (pt ⟨q.val / 37, by omega⟩ k)) h ⟨q.val % 37, by omega⟩ := by
  rw [wsN_apply, if_pos (show q.val / 37 * 28 + k.val ≤ lastPt.val by show _ ≤ 3 * 28 + 27; omega)]

/-- The run, with every result named and the arguments unchanged. -/
theorem run : θ_run defs (onTc (τ := τ) (main (F := Ideal))) ⟨m, fun _ => 0, ρ⟩ (fun r => ∀ c : Dev nD,
      r.2.mem ((c.tc : Thread nD τ).loc main_v1_0) = yArr m c
      ∧ r.2.mem ((c.tc : Thread nD τ).loc main_v1_1) = xcF (X0 m c)
      ∧ r.2.mem ((c.tc : Thread nD τ).loc main_v1_2) = xsF (X0 m c)
      ∧ r.2.mem ((c.tc : Thread nD τ).loc main_v1_3) = wcArr m c
      ∧ r.2.mem ((c.tc : Thread nD τ).loc main_v1_4) = wsN m c lastPt.val lastPt.isLt
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final2 m c), ((h.1 c).1 3).trans (final3 m c), ((h.1 c).1 4).trans (final4 m c),
      ((h.1 c).1 5).trans (final5 m c), ((h.1 c).1 6).trans (final6 m c),
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c)))⟩)
    (run_main m ρ)

end Cert.KernelIdeal.Hand

end
-- ==== Proof.RefRead.lean ====
module

public import Idealize.ShloMosaic.Lib.Pointwise
public import proofs.«01_k».proof.Proof.Spec
public import proofs.«01_k».proof.Proof.Gen.ReferenceIdeal.Value

@[expose] public section

set_option maxRecDepth 65536

/-! # What the reference computes

Each result of the reference, at an index, is the function of `Spec` of the two arguments. -/

namespace Cert.ReferenceIdeal.Hand

open Idealize.ShloMosaic Cert.ReferenceIdeal.Gen

noncomputable section

/-- `x` by rows, contraction blocks and places in the block. -/
def xOf (x : Vec Ideal S4x1x3584 .bf16) (r : Fin 4) (k : Fin 28) (l : Fin 128) : EReal :=
  x (ix3 r 0 ⟨k * 128 + l, by omega⟩)

/-- The weights by contraction blocks, places in the block, halves, column blocks and lanes. -/
def wOf (w : Vec Ideal S3584x2x18944 .bf16) (k : Fin 28) (d : Fin 128) (h : Fin 2) (n : Fin 148) (l : Fin 128) : EReal :=
  w (ix3 ⟨k * 128 + d, by omega⟩ h ⟨n * 128 + l, by omega⟩)

theorem exp_arg (k : Fin 254) : FloatOps.exp2 (F := Ideal) (φ := .f32) (FloatOps.sitofp .f32 (IntOp.subi (BitVec.ofNat 32 k) 126#32))
    = Ideal.exp2 ((((k : ℕ) : ℤ) - 126 : ℤ) : ℝ) := by
  have h : ∀ k : Fin 254, (IntOp.subi (BitVec.ofNat 32 k) 126#32).toInt = ((k : ℕ) : ℤ) - 126 := by decide
  show Ideal.exp2 (((IntOp.subi (BitVec.ofNat 32 k) 126#32).toInt : ℝ) : EReal) = _
  rw [h]

theorem absf_eq {φ : FTy} (a : Ideal φ) : FloatOps.absf a = max a (-a) := rfl

theorem pay4_apply (x : Vec Ideal S4x1x3584 .bf16) (r : Fin 4) (k : Fin 28) (l : Fin 128) :
    k0_pay4 (F := Ideal) x (ix4 r 0 k l) = xOf x r k l := by
  pointwise [k0_pay4]
  rfl

theorem pay5_apply (x : Vec Ideal S4x1x3584 .bf16) (r : Fin 4) (k : Fin 28) :
    k0_pay5 (F := Ideal) x (ix3 r 0 k) = Spec.xs (xOf x) r k := by
  pointwise [k0_pay5]
  simp only [exp_arg, pay4_apply, Spec.fold_max, Spec.ofBits_two, absf_eq]
  rfl

theorem pay6_apply (x : Vec Ideal S4x1x3584 .bf16) (r : Fin 4) (k : Fin 28) (l : Fin 128) :
    k0_pay6 (F := Ideal) x (ix4 r 0 k l) = Spec.xc (xOf x) r k l := by
  pointwise [k0_pay6]
  simp only [pay4_apply, pay5_apply]
  rfl

theorem pay7_apply (w : Vec Ideal S3584x2x18944 .bf16) (k : Fin 28) (d : Fin 128) (h : Fin 2) (n : Fin 148) (l : Fin 128) :
    k0_pay7 (F := Ideal) w (ix5 k d h n l) = wOf w k d h n l := by
  pointwise [k0_pay7]
  rfl

/-- A maximum over the indices that reduce to `j` is the maximum over any family that runs through them. -/
theorem fold_drop {s t : Shape} {axes : List (Fin s.rank)} (h : s.Reduces axes t) (f : s.Idx → EReal) (j : t.Idx)
    {ι : Type} [Fintype ι] (g : ι → s.Idx) (hg : ∀ p, h.drop (g p) = j) (hs : ∀ i, h.drop i = j → ∃ p, g p = i) :
    (Finset.univ.filter fun i => h.drop i = j).fold max (Ideal.ofBits .f32 0xFF800000#32) f
      = Finset.univ.sup fun p => f (g p) := by
  rw [Spec.ofBits_neg_inf]
  show (Finset.univ.filter fun i => h.drop i = j).sup f = _
  apply le_antisymm
  · refine Finset.sup_le fun i hi => ?_
    obtain ⟨p, rfl⟩ := hs i (Finset.mem_filter.1 hi).2
    exact Finset.le_sup (f := fun p => f (g p)) (Finset.mem_univ p)
  · exact Finset.sup_le fun p _ => Finset.le_sup (f := f) (Finset.mem_filter.2 ⟨Finset.mem_univ _, hg p⟩)

theorem drop_val (i : S28x128x2x148x128.Idx) :
    reduces_S28x128x2x148x128_S28x2x148.drop i = ix3 (i 0) (i 2) (i 3) := by
  funext b
  apply Fin.ext
  match b with
  | ⟨0, _⟩ => rfl
  | ⟨1, _⟩ => rfl
  | ⟨2, _⟩ => rfl

theorem drop_cover (i : S28x128x2x148x128.Idx) (k : Fin 28) (h : Fin 2) (n : Fin 148)
    (hi : reduces_S28x128x2x148x128_S28x2x148.drop i = ix3 k h n) :
    ∃ p : Fin 128 × Fin 128, ix5 k p.1 h n p.2 = i := by
      refine ⟨(i 1, i 4), ?_⟩
      rw [drop_val] at hi
      have h0 : i 0 = k := congrFun hi 0
      have h1 : i 2 = h := congrFun hi 1
      have h2 : i 3 = n := congrFun hi 2
      subst h0 h1 h2
      funext b
      match b with
      | ⟨0, _⟩ => rfl
      | ⟨1, _⟩ => rfl
      | ⟨2, _⟩ => rfl
      | ⟨3, _⟩ => rfl
      | ⟨4, _⟩ => rfl

theorem maxW (v : FVec Ideal S28x128x2x148x128 .f32) (k : Fin 28) (h : Fin 2) (n : Fin 148) (h1) (h2) :
    multiReduction (F := Ideal) .maximumf [1, 4] S28x2x148 v 0xFF800000#32
      reduces_S28x128x2x148x128_S28x2x148 h1 h2 (ix3 k h n)
      = Finset.univ.sup fun p : Fin 128 × Fin 128 => v (ix5 k p.1 h n p.2) :=
  (multiReduction_maximumf_eq_fold v 0xFF800000#32 reduces_S28x128x2x148x128_S28x2x148 h1 h2 (ix3 k h n)).trans
    (fold_drop reduces_S28x128x2x148x128_S28x2x148 v (ix3 k h n)
    (fun p : Fin 128 × Fin 128 => ix5 k p.1 h n p.2) (fun p => drop_val _) (fun i hi => drop_cover i k h n hi))

theorem mulf_broadcast {s : Shape} (a : FVec Ideal s .f32) (b : Ideal .f32) (i : s.Idx) :
    mulf a (broadcast s b) i = (a i : EReal) * b := rfl

theorem absf_sup (v : FVec Ideal S28x128x2x148x128 .f32) (f : Fin 128 × Fin 128 → EReal) (g : Fin 128 × Fin 128 → S28x128x2x148x128.Idx)
    (e : ∀ p, v (g p) = f p) :
    (Finset.univ.sup fun p : Fin 128 × Fin 128 => (absf v (g p) : EReal)) = Spec.amax f := by
  refine Finset.sup_congr rfl fun p _ => ?_
  rw [← e]
  rfl

theorem pay8_apply (w : Vec Ideal S3584x2x18944 .bf16) (k : Fin 28) (h : Fin 2) (n : Fin 148) :
    k0_pay8 (F := Ideal) w (ix3 k h n) = Spec.amax (fun p : Fin 128 × Fin 128 => wOf w k p.1 h n p.2) * Spec.c448 := by
  unfold k0_pay8
  refine (mulf_broadcast _ _ _).trans (congrArg (fun z : EReal => z * Spec.c448) ?_)
  refine (maxW _ k h n _ _).trans ?_
  exact absf_sup _ _ (fun p : Fin 128 × Fin 128 => ix5 k p.1 h n p.2) fun p => pay7_apply w k p.1 h n p.2

theorem cast1 (v : FVec Ideal S28x2x148 .f32) (k : Fin 28) (h : Fin 2) (n : Fin 148) :
    shapeCast S28x2x148x1 v shapeCasts_S28x2x148_S28x2x148x1 (ix4 k h n 0) = v (ix3 k h n) := by
  pointwise []

theorem bcast1 (v : FVec Ideal S28x2x148x1 .f32) (k : Fin 28) (h : Fin 2) (n : Fin 148) (l : Fin 254) :
    broadcastTo S28x2x148x254 v broadcasts_S28x2x148x1_S28x2x148x254 (ix4 k h n l) = v (ix4 k h n 0) := by
  pointwise []

theorem iota1 (k : Fin 28) (h : Fin 2) (n : Fin 148) (l : Fin 254) :
    iota .tc S28x2x148x254 32 [3] iota_S28x2x148x254_d3_w32 (ix4 k h n l) = BitVec.ofNat 32 l.val := by
  pointwise []

theorem maxE (v : FVec Ideal S28x2x148x254 .f32) (k : Fin 28) (h : Fin 2) (n : Fin 148) (f : Fin 254 → EReal)
    (hv : ∀ l, v (ix4 k h n l) = f l) :
    multiReduction .maximumf [3] S28x2x148 v 0xFF800000#32 reduces_S28x2x148x254_S28x2x148 (.inl rfl) rfl (ix3 k h n)
      = Finset.univ.sup f := by
  pointwise []
  rw [Spec.fold_max]
  exact Finset.sup_congr rfl fun l _ => hv l

theorem sel_le (a b t : Ideal .f32) :
    Scalar.select (FloatOps.cmpf (F := Ideal) (φ := .f32) .ole a b) t (FloatOps.ofBits (F := Ideal) .f32 0#32) = (if (a : EReal) ≤ b then t else 0 : EReal) := by
  pointwise []

theorem sel_one (z : Ideal .f32) :
    Scalar.select (FloatOps.cmpf (F := Ideal) (φ := .f32) .oeq z (FloatOps.ofBits (F := Ideal) .f32 0#32)) (FloatOps.ofBits (F := Ideal) .f32 0x3F800000#32) z = (if (z : EReal) = 0 then 1 else z : EReal) := by
  pointwise []

/-- The powers of two of the reference's ladder, compared with a block's value. -/
def pows (v : FVec Ideal S28x2x148 .f32) : FVec Ideal S28x2x148x254 .f32 :=
  select (cmpf .ole (exp2 (sitofp .f32 (subi (iota .tc S28x2x148x254 32 [3] iota_S28x2x148x254_d3_w32)
      (broadcast S28x2x148x254 126#32))))
      (broadcastTo S28x2x148x254 (shapeCast S28x2x148x1 v shapeCasts_S28x2x148_S28x2x148x1)
                broadcasts_S28x2x148x1_S28x2x148x254))
    (mulf (broadcast S28x2x148x254 (FloatOps.ofBits FTy.f32 1073741824#32))
      (exp2 (sitofp .f32 (subi (iota .tc S28x2x148x254 32 [3] iota_S28x2x148x254_d3_w32)
      (broadcast S28x2x148x254 126#32)))))
    (broadcast S28x2x148x254 (FloatOps.ofBits FTy.f32 0#32))

theorem pows_apply (v : FVec Ideal S28x2x148 .f32) (k : Fin 28) (h : Fin 2) (n : Fin 148) (l : Fin 254) :
    pows v (ix4 k h n l) = (if Ideal.exp2 ((((l : ℕ) : ℤ) - 126 : ℤ) : ℝ) ≤ v (ix3 k h n)
      then 2 * Ideal.exp2 ((((l : ℕ) : ℤ) - 126 : ℤ) : ℝ) else 0 : EReal) := by
  have hb : broadcastTo S28x2x148x254 (shapeCast S28x2x148x1 v shapeCasts_S28x2x148_S28x2x148x1)
      broadcasts_S28x2x148x1_S28x2x148x254 (ix4 k h n l) = v (ix3 k h n) := (bcast1 _ k h n l).trans (cast1 v k h n)
  have hx : (exp2 (sitofp .f32 (subi (iota .tc S28x2x148x254 32 [3] iota_S28x2x148x254_d3_w32)
      (broadcast S28x2x148x254 126#32))) : FVec Ideal S28x2x148x254 .f32) (ix4 k h n l)
      = Ideal.exp2 ((((l : ℕ) : ℤ) - 126 : ℤ) : ℝ) := by
    rw [← exp_arg, ← iota1 k h n l]
    rfl
  rw [← hb, ← hx, ← Spec.ofBits_two]
  exact sel_le _ _ _

theorem sel_vec {s : Shape} (M : FVec Ideal s .f32) (i : s.Idx) :
    select (cmpf .oeq M (broadcast s (FloatOps.ofBits .f32 0#32))) (broadcast s (FloatOps.ofBits .f32 0x3F800000#32)) M i
      = (if (M i : EReal) = 0 then 1 else M i : EReal) := sel_one (M i)

/-- The greatest of the powers of two that the ladder keeps. -/
def maxPow (v : FVec Ideal S28x2x148 .f32) : FVec Ideal S28x2x148 .f32 :=
  multiReduction .maximumf [3] S28x2x148 (pows v) 0xFF800000#32 reduces_S28x2x148x254_S28x2x148 (.inl rfl) rfl

theorem maxPow_apply (v : FVec Ideal S28x2x148 .f32) (k : Fin 28) (h : Fin 2) (n : Fin 148) :
    maxPow v (ix3 k h n) = Pow2.above (v (ix3 k h n)) :=
  maxE (pows v) k h n _ fun l => pows_apply v k h n l

theorem pay9_eq (v : FVec Ideal S28x2x148 .f32) : k0_pay9 (F := Ideal) v
    = select (cmpf .oeq (maxPow v) (broadcast S28x2x148 (FloatOps.ofBits .f32 0#32))) (broadcast S28x2x148 (FloatOps.ofBits .f32 0x3F800000#32)) (maxPow v) := rfl

theorem pay9_apply (v : FVec Ideal S28x2x148 .f32) (k : Fin 28) (h : Fin 2) (n : Fin 148) :
    k0_pay9 (F := Ideal) v (ix3 k h n) = Pow2.scale (v (ix3 k h n)) := by
  rw [pay9_eq, sel_vec, maxPow_apply]
  rfl

theorem cast2 (v : FVec Ideal S28x2x148 .f32) (k : Fin 28) (h : Fin 2) (n : Fin 148) :
    shapeCast S28x1x2x148x1 v shapeCasts_S28x2x148_S28x1x2x148x1 (ix5 k 0 h n 0) = v (ix3 k h n) := by
  pointwise []

theorem bcast2 (v : FVec Ideal S28x1x2x148x1 .f32) (k : Fin 28) (d : Fin 128) (h : Fin 2) (n : Fin 148) (l : Fin 128) :
    broadcastTo S28x128x2x148x128 v broadcasts_S28x1x2x148x1_S28x128x2x148x128 (ix5 k d h n l) = v (ix5 k 0 h n 0) := by
  pointwise []

theorem div_one (a : Ideal .f32) : FloatOps.divf (F := Ideal) (φ := .f32) (FloatOps.ofBits (F := Ideal) .f32 0x3F800000#32) a = Ideal.div 1 a := by
  pointwise []

theorem div_vec {s : Shape} (M : FVec Ideal s .f32) (i : s.Idx) :
    divf (broadcast s (FloatOps.ofBits .f32 0x3F800000#32)) M i = Ideal.div 1 (M i) := div_one (M i)

theorem clip_vec {s : Shape} (w b : FVec Ideal s .f32) (i : s.Idx) :
    truncf .fp8e4m3 (minimumf (broadcast s (FloatOps.ofBits .f32 0x43E00000#32)) (maximumf (broadcast s (FloatOps.ofBits .f32 0xC3E00000#32)) (mulf w b)))
      bitsLt_fp8e4m3_f32 i = Spec.clip (w i * b i) := rfl

/-- The inverse scales of the weights' blocks, spread over the blocks. -/
def invW (v : FVec Ideal S28x2x148 .f32) : FVec Ideal S28x128x2x148x128 .f32 :=
  broadcastTo S28x128x2x148x128 (shapeCast S28x1x2x148x1 (divf (broadcast S28x2x148 (FloatOps.ofBits .f32 0x3F800000#32)) (k0_pay9 v))
    shapeCasts_S28x2x148_S28x1x2x148x1) broadcasts_S28x1x2x148x1_S28x128x2x148x128

theorem invW_apply (v : FVec Ideal S28x2x148 .f32) (k : Fin 28) (d : Fin 128) (h : Fin 2) (n : Fin 148) (l : Fin 128) :
    invW v (ix5 k d h n l) = Ideal.div 1 (Pow2.scale (v (ix3 k h n))) := by
  unfold invW
  rw [bcast2, cast2, div_vec, pay9_apply]

theorem pay10_eq (w : FVec Ideal S28x128x2x148x128 .f32) (v : FVec Ideal S28x2x148 .f32) : k0_pay10 (F := Ideal) w v
    = truncf .fp8e4m3 (minimumf (broadcast S28x128x2x148x128 (FloatOps.ofBits .f32 0x43E00000#32))
        (maximumf (broadcast S28x128x2x148x128 (FloatOps.ofBits .f32 0xC3E00000#32)) (mulf w (invW v)))) bitsLt_fp8e4m3_f32 := rfl

theorem pay10_apply (w : FVec Ideal S28x128x2x148x128 .f32) (v : FVec Ideal S28x2x148 .f32) (k : Fin 28) (d : Fin 128) (h : Fin 2) (n : Fin 148) (l : Fin 128) :
    k0_pay10 (F := Ideal) w v (ix5 k d h n l) = Spec.code (w (ix5 k d h n l)) (Pow2.scale (v (ix3 k h n))) := by
  rw [pay10_eq, clip_vec, invW_apply]
  rfl

/-- A sum over the whole contraction is the sum over its blocks of the sums over a block. -/
theorem sum_blocks (f : Fin 28 → Fin 128 → EReal) :
    ∑ x : Fin 3584, f ⟨x / 128, by omega⟩ ⟨x % 128, by omega⟩ = ∑ k, ∑ d, f k d := by
  rw [← Fintype.sum_prod_type']
  refine Fintype.sum_equiv (finProdFinEquiv (m := 28) (n := 128)).symm _ _ fun x => ?_
  congr 1

theorem pay11_apply (s : FVec Ideal S4x1x28 .f32) (c : FVec Ideal S4x1x28x128 .fp8e4m3) (w : FVec Ideal S28x128x2x148x128 .f32) (v : FVec Ideal S28x2x148 .f32) (r : Fin 4) (n : Fin 148) (l : Fin 128) :
    k0_pay11 (F := Ideal) s c w v (ix2 r ⟨n * 128 + l, by omega⟩) =
      (∑ k : Fin 28, ∑ d : Fin 128, c (ix4 r 0 k d) * s (ix3 r 0 k) * (k0_pay10 (F := Ideal) w v (ix5 k d 0 n l) * k0_pay9 (F := Ideal) v (ix3 k 0 n)))
        * Ideal.logistic (∑ k : Fin 28, ∑ d : Fin 128, c (ix4 r 0 k d) * s (ix3 r 0 k) * (k0_pay10 (F := Ideal) w v (ix5 k d 0 n l) * k0_pay9 (F := Ideal) v (ix3 k 0 n)))
        * (∑ k : Fin 28, ∑ d : Fin 128, c (ix4 r 0 k d) * s (ix3 r 0 k) * (k0_pay10 (F := Ideal) w v (ix5 k d 1 n l) * k0_pay9 (F := Ideal) v (ix3 k 1 n))) := by
  pointwise [k0_pay11]
  have e : ∀ h : Fin 2, _ := fun h => sum_blocks fun k d =>
    c (ix4 r 0 k d) * s (ix3 r 0 k) * (k0_pay10 (F := Ideal) w v (ix5 k d h n l) * k0_pay9 (F := Ideal) v (ix3 k h n))
  exact congrArg₂ (· * ·) (congrArg₂ (· * ·) (e 0) (congrArg Ideal.logistic (e 0))) (e 1)

end

end Cert.ReferenceIdeal.Hand
-- ==== Proof.RefOut.lean ====
module

public import proofs.«01_k».proof.Proof.RefRead

@[expose] public section

set_option maxRecDepth 65536

/-! # The reference's results, at an index -/

namespace Cert.ReferenceIdeal.Hand

open Idealize.ShloMosaic Cert.ReferenceIdeal.Gen

noncomputable section

variable (a0 : Vec Ideal S4x1x3584 .bf16) (a1 : Vec Ideal S3584x2x18944 .bf16)

theorem ld0 : View.ld a0 r0_0 = a0 := View.ld_unit_zero (off := ![0, 0, 0]) (funext fun a => by fin_cases a <;> rfl) _ a0

theorem ld1 : View.ld a1 r0_1 = a1 := View.ld_unit_zero (off := ![0, 0, 0]) (funext fun a => by fin_cases a <;> rfl) _ a1

/-- The codes of the weights, as the reference holds them. -/
theorem pay16_apply (k : Fin 28) (d : Fin 128) (h : Fin 2) (n : Fin 148) (l : Fin 128) :
    k0_pay16 (F := Ideal) a0 a1 (ix5 k d h n l) = Spec.wc (wOf a1) k d h n l := by
  unfold k0_pay16 k0_pay14 k0_pay15
  rw [ld1, pay10_apply, pay7_apply, pay8_apply]
  rfl

/-- The scales of `x`. -/
theorem G4_apply (r : Fin 4) (k : Fin 28) : Value.G4 (F := Ideal) a0 a1 (ix3 r 0 k) = Spec.xs (xOf a0) r k := by
  show k0_pay12 (F := Ideal) a0 a1 _ = _
  unfold k0_pay12
  rw [ld0, pay5_apply]

theorem castX (v : FVec Ideal S4x1x28x128 .fp8e4m3) (r : Fin 4) (k : Fin 28) (l : Fin 128) :
    k0_pay1 (F := Ideal) v (ix2 r ⟨k * 128 + l, by omega⟩) = v (ix4 r 0 k l) := by
  pointwise [k0_pay1]

/-- The codes of `x`. -/
theorem G3_apply (r : Fin 4) (k : Fin 28) (l : Fin 128) :
    Value.G3 (F := Ideal) a0 a1 (ix2 r ⟨k * 128 + l, by omega⟩) = Spec.xc (xOf a0) r k l := by
  refine (castX _ r k l).trans ?_
  unfold k0_pay13
  rw [ld0, pay6_apply]

/-- The scales of the weights. -/
theorem G6_apply (k : Fin 28) (h : Fin 2) (n : Fin 148) : Value.G6 (F := Ideal) a0 a1 (ix3 k h n) = Spec.ws (wOf a1) k h n := by
  refine (pay9_apply _ k h n).trans ?_
  unfold k0_pay15
  rw [ld1, pay8_apply]
  rfl

theorem pay2_apply (v : FVec Ideal S28x128x2x148x128 .fp8e4m3) (k : Fin 28) (d : Fin 128) (n : Fin 148) (l : Fin 128) :
    k0_pay2 (F := Ideal) v (ix3 0 ⟨k * 128 + d, by omega⟩ ⟨n * 128 + l, by omega⟩) = v (ix5 k d 0 n l) := by
  pointwise [k0_pay2]

theorem pay3_apply (v : FVec Ideal S28x128x2x148x128 .fp8e4m3) (k : Fin 28) (d : Fin 128) (n : Fin 148) (l : Fin 128) :
    k0_pay3 (F := Ideal) v (ix3 0 ⟨k * 128 + d, by omega⟩ ⟨n * 128 + l, by omega⟩) = v (ix5 k d 1 n l) := by
  pointwise [k0_pay3]

theorem emb_r5 (i : Fin 3584) (j : Fin 18944) : r0_5.emb (ix3 0 i j) = (ix3 0 i j : S2x3584x18944.Idx) :=
  Rect.emb_eq_of_coords _ _ _ fun a => match a with
    | ⟨0, _⟩ => rfl
    | ⟨1, _⟩ => by show i.val = 0 + 1 * i.val; omega
    | ⟨2, _⟩ => by show j.val = 0 + 1 * j.val; omega

theorem emb_r6 (i : Fin 3584) (j : Fin 18944) : r0_6.emb (ix3 0 i j) = (ix3 1 i j : S2x3584x18944.Idx) :=
  Rect.emb_eq_of_coords _ _ _ fun a => match a with
    | ⟨0, _⟩ => rfl
    | ⟨1, _⟩ => by show i.val = 0 + 1 * i.val; omega
    | ⟨2, _⟩ => by show j.val = 0 + 1 * j.val; omega

theorem pay2_at (v : FVec Ideal S28x128x2x148x128 .fp8e4m3) (i : Fin 3584) (j : Fin 18944) :
    k0_pay2 (F := Ideal) v (ix3 0 i j)
      = v (ix5 (⟨i.val / 128, by omega⟩ : Fin 28) (⟨i.val % 128, by omega⟩ : Fin 128) 0 (⟨j.val / 128, by omega⟩ : Fin 148) (⟨j.val % 128, by omega⟩ : Fin 128)) := by
  refine Eq.trans ?_ (pay2_apply v _ _ _ _)
  refine congrArg (k0_pay2 (F := Ideal) v) ?_
  refine congrArg₂ (ix3 0) (Fin.ext ?_) (Fin.ext ?_)
  · show i.val = i.val / 128 * 128 + i.val % 128; omega
  · show j.val = j.val / 128 * 128 + j.val % 128; omega

theorem pay3_at (v : FVec Ideal S28x128x2x148x128 .fp8e4m3) (i : Fin 3584) (j : Fin 18944) :
    k0_pay3 (F := Ideal) v (ix3 0 i j)
      = v (ix5 (⟨i.val / 128, by omega⟩ : Fin 28) (⟨i.val % 128, by omega⟩ : Fin 128) 1 (⟨j.val / 128, by omega⟩ : Fin 148) (⟨j.val % 128, by omega⟩ : Fin 128)) := by
  refine Eq.trans ?_ (pay3_apply v _ _ _ _)
  refine congrArg (k0_pay3 (F := Ideal) v) ?_
  refine congrArg₂ (ix3 0) (Fin.ext ?_) (Fin.ext ?_)
  · show i.val = i.val / 128 * 128 + i.val % 128; omega
  · show j.val = j.val / 128 * 128 + j.val % 128; omega

/-- The code of the weight at row `i` and column `j` of half `h`. -/
def wcAt (h : Fin 2) (i : Fin 3584) (j : Fin 18944) : EReal :=
  Spec.wc (wOf a1) ⟨i.val / 128, by omega⟩ ⟨i.val % 128, by omega⟩ h ⟨j.val / 128, by omega⟩ ⟨j.val % 128, by omega⟩

/-- The codes of the weights. -/
def wcG : Vec Ideal S2x3584x18944 .fp8e4m3 := fun y => wcAt a1 (y 0) (y 1) (y 2)

theorem piece5 (x : r0_5.shape.Idx) : k0_pay2 (F := Ideal) (k0_pay16 a0 a1) x = wcG a1 (r0_5.emb x) := by
  have key : ∀ (u : Fin 1) (i : Fin 3584) (j : Fin 18944),
      k0_pay2 (F := Ideal) (k0_pay16 a0 a1) (ix3 u i j) = wcG a1 (r0_5.emb (ix3 u i j)) := fun u i j => by
    obtain rfl : u = 0 := Subsingleton.elim _ _
    rw [emb_r5, pay2_at, pay16_apply]
    rfl
  rw [eq_ix3 x]
  exact key _ _ _

theorem piece6 (x : r0_6.shape.Idx) : k0_pay3 (F := Ideal) (k0_pay16 a0 a1) x = wcG a1 (r0_6.emb x) := by
  have key : ∀ (u : Fin 1) (i : Fin 3584) (j : Fin 18944),
      k0_pay3 (F := Ideal) (k0_pay16 a0 a1) (ix3 u i j) = wcG a1 (r0_6.emb (ix3 u i j)) := fun u i j => by
    obtain rfl : u = 0 := Subsingleton.elim _ _
    rw [emb_r6, pay3_at, pay16_apply]
    rfl
  rw [eq_ix3 x]
  exact key _ _ _

theorem mem_r5 (i : Fin 3584) (j : Fin 18944) : (ix3 0 i j : S2x3584x18944.Idx) ∈ r0_5.set := by
  rw [← emb_r5]; exact LoadRect.idx_mem _ _

theorem mem_r6 (i : Fin 3584) (j : Fin 18944) : (ix3 1 i j : S2x3584x18944.Idx) ∈ r0_6.set := by
  rw [← emb_r6]; exact LoadRect.idx_mem _ _

/-- The codes of the weights. -/
theorem G5_apply (h : Fin 2) (i : Fin 3584) (j : Fin 18944) : Value.G5 (F := Ideal) a0 a1 (ix3 h i j) = wcAt a1 h i j := by
  refine View.canon_apply_of_pieces (wcG a1) _ (fun p hp => ?_) (ix3 h i j) ?_
  · rcases List.mem_cons.1 hp with rfl | hp
    · exact piece6 a0 a1
    · obtain rfl := List.mem_singleton.1 hp
      exact piece5 a0 a1
  · match h with
    | ⟨0, _⟩ => exact ⟨_, List.mem_cons_of_mem _ (List.mem_cons_self ..), mem_r5 i j⟩
    | ⟨1, _⟩ => exact ⟨_, List.mem_cons_self .., mem_r6 i j⟩

/-- The product. -/
theorem G2_apply (r : Fin 4) (n : Fin 148) (l : Fin 128) :
    Value.G2 (F := Ideal) a0 a1 (ix2 r ⟨n * 128 + l, by omega⟩) = Spec.y (xOf a0) (wOf a1) r n l := by
  refine (pay11_apply _ _ _ _ r n l).trans ?_
  unfold k0_pay12 k0_pay13 k0_pay14 k0_pay15
  simp only [ld0, ld1, pay5_apply, pay6_apply, pay10_apply, pay9_apply, pay7_apply, pay8_apply]
  rfl

end

end Cert.ReferenceIdeal.Hand
-- ==== Proof.Finite.lean ====
module

public import proofs.«01_k».proof.Proof.CodesRead
public import proofs.«01_k».proof.Proof.Gen.Pre_finite
public import Idealize.ShloMosaic.Lib.ReduceAll

@[expose] public section

/-! # Finite arguments

What the precondition says of the arguments, and the scales of a block of finite numbers. -/

namespace Cert.Finite

open Idealize.ShloMosaic
open Cert.KernelIdeal.Hand (top)

noncomputable section

/-- The greatest finite bfloat16 number. -/
def big : EReal := Ideal.ofBits .bf16 0x7F7F#16

theorem big_eq : big = ((255 * 2 ^ (120 : ℤ) : ℝ) : EReal) := by
  have h1 : ((0x7F7F#16 : BitVec 16).extractLsb' (8 + 7) 1 == 1#1) = false := by decide
  have h2 : ((0x7F7F#16 : BitVec 16).extractLsb' 7 8).toNat = 254 := by decide
  have h3 : ((0x7F7F#16 : BitVec 16).extractLsb' 0 7).toNat = 127 := by decide
  simp only [big, Ideal.ofBits, Ideal.ieee, h1, h2, h3]
  norm_num

theorem c448_eq : Spec.c448 = ((9586981 * 2 ^ (-32 : ℤ) : ℝ) : EReal) := by
  have h1 : ((0x3B124925#32 : BitVec 32).extractLsb' (8 + 23) 1 == 1#1) = false := by decide
  have h2 : ((0x3B124925#32 : BitVec 32).extractLsb' 23 8).toNat = 118 := by decide
  have h3 : ((0x3B124925#32 : BitVec 32).extractLsb' 0 23).toNat = 1198373 := by decide
  simp only [Spec.c448, Ideal.ofBits, Ideal.ieee, h1, h2, h3]
  norm_num

theorem val_eq : Pow2.val 247 = ((2 ^ (120 : ℤ) : ℝ) : EReal) := by
  rw [Pow2.val, show (247 : BitVec 8).toNat = 247 from rfl]
  norm_num

/-- The greatest magnitude of a block of finite numbers is finite. -/
theorem amax_le {ι : Type} [Fintype ι] (f : ι → EReal) (h : ∀ i, max (f i) (-(f i)) ≤ big) : Spec.amax f ≤ big :=
  Finset.sup_le fun i _ => h i

theorem amax_nonneg {ι : Type} [Fintype ι] [Inhabited ι] (f : ι → EReal) : 0 ≤ Spec.amax f := by
  refine le_trans ?_ (Finset.le_sup (f := fun i => max (f i) (-(f i))) (Finset.mem_univ default))
  rcases le_total 0 (f default) with h | h
  · exact le_max_of_le_left h
  · exact le_max_of_le_right (by simpa using EReal.neg_le_neg_iff.2 h)

theorem c448_nonneg : 0 ≤ Spec.c448 := by
  rw [c448_eq]; exact_mod_cast (by positivity : (0 : ℝ) ≤ 9586981 * 2 ^ (-32 : ℤ))

theorem top_nonneg {ι : Type} [Fintype ι] [Inhabited ι] (f : ι → EReal) : 0 ≤ top f :=
  mul_nonneg (amax_nonneg f) c448_nonneg

theorem top_lt {ι : Type} [Fintype ι] (f : ι → EReal) (h : ∀ i, max (f i) (-(f i)) ≤ big) : top f < Pow2.val 247 := by
  refine lt_of_le_of_lt (mul_le_mul_of_nonneg_right (amax_le f h) c448_nonneg) ?_
  rw [big_eq, c448_eq, val_eq, ← EReal.coe_mul, EReal.coe_lt_coe_iff]
  norm_num

/-- The kernel's scale of a block of finite numbers. -/
theorem kscale_top {ι : Type} [Fintype ι] [Inhabited ι] (f : ι → EReal) (h : ∀ i, max (f i) (-(f i)) ≤ big) :
    Pow2.kscale (top f) = Spec.blockScale (Spec.amax f) :=
  Pow2.kernel_scale (top_nonneg f) (top_lt f h)

/-- The kernel's inverse scale of a block of finite numbers. -/
theorem kinv_top {ι : Type} [Fintype ι] [Inhabited ι] (f : ι → EReal) (h : ∀ i, max (f i) (-(f i)) ≤ big) :
    Pow2.kinv (top f) = Ideal.div 1 (Spec.blockScale (Spec.amax f)) :=
  Pow2.kernel_inv (top_nonneg f) (top_lt f h)

/-- The scale of a block of finite numbers is a positive number. -/
theorem blockScale_pos {ι : Type} [Fintype ι] [Inhabited ι] (f : ι → EReal) (h : ∀ i, max (f i) (-(f i)) ≤ big) :
    ∃ s : ℝ, 0 < s ∧ Spec.blockScale (Spec.amax f) = (s : EReal) :=
  Pow2.scale_pos (top_nonneg f) (top_lt f h)

theorem of_cmp {a b : EReal} (h : FloatOps.cmpf (F := Ideal) (φ := .bf16) .ole a b = 1#1) : a ≤ b := by
  by_contra hc
  revert h
  show BitVec.ofBool _ = 1#1 → False
  simp [Ideal.cmp, hc]

instance : Subsingleton Cert.Pre_finite.S_.Idx := ⟨fun a b => funext fun i => i.elim0⟩

open Cert.Pre_finite Cert.Pre_finite.Facts in
/-- The precondition: every entry of both arguments is finite. -/
theorem of_pre (x : FVec Ideal S4x1x3584 .bf16) (w : FVec Ideal S3584x2x18944 .bf16)
    (h : Cert.Pre_finite.fn (F := Ideal) x w = fun _ => 1#1) :
    (∀ i, max (x i) (-(x i) : EReal) ≤ big) ∧ ∀ i, max (w i) (-(w i) : EReal) ≤ big := by
  have h0 := congrFun h (fun i => i.elim0)
  obtain ⟨h1, h2⟩ := IntOp.andi_eq_one.1 h0
  exact ⟨fun i => of_cmp (Host.reduce_andi_all _ _ _ _ _ h1 i), fun i => of_cmp (Host.reduce_andi_all _ _ _ _ _ h2 i)⟩

end

end Cert.Finite
-- ==== Proof.Equal.lean ====
module

public import proofs.«01_k».proof.Proof.Final
public import proofs.«01_k».proof.Proof.RefOut
public import proofs.«01_k».proof.Proof.Finite

@[expose] public section

set_option maxRecDepth 16384

/-! # The kernel's results are the reference's

Under finite arguments, every array that the kernel leaves is the reference's. -/

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal.Gen
open Cert.ReferenceIdeal.Hand (xOf wOf)
open Cert.Finite (big)

attribute [local irreducible] accN wsN

/-- A sum times a number that is neither negative nor infinite. -/
theorem sum_mul_of_pos {ι : Type} (S : Finset ι) (f : ι → EReal) {s : ℝ} (hs : 0 < s) :
    (∑ i ∈ S, f i) * (s : EReal) = ∑ i ∈ S, f i * (s : EReal) := by
  classical
  induction S using Finset.induction_on with
  | empty => simp
  | insert a S ha ih =>
    rw [Finset.sum_insert ha, Finset.sum_insert ha, EReal.right_distrib_of_nonneg_of_ne_top (by exact_mod_cast hs.le) (EReal.coe_ne_top _), ih]

variable (m : (ℓ : Loc nD τ sig) → Buf (Elt Ideal) ℓ) (c : Dev nD)

/-- The activations as launched. -/
abbrev arg0 : Vec Ideal S4x1x3584 .bf16 := m ((c.tc : Thread nD τ).loc main_arg0)

/-- The weights as launched. -/
abbrev arg1 : Vec Ideal S3584x2x18944 .bf16 := m ((c.tc : Thread nD τ).loc main_arg1)

/-- A block of the activations. -/
theorem xBlk_eq (r : Fin 4) (k : Fin 28) : xBlk (X0 m c) r k = xOf (arg0 m c) r k := by
  funext d
  show X0 m c (ix2 r ⟨128 * k.val + d.val, _⟩) = _
  rw [X0_apply]
  exact congrArg (arg0 m c) (congrArg (ix3 r 0) (Fin.ext (by show 128 * k.val + d.val = k.val * 128 + d.val; omega)))

/-- A tile of the weights. -/
theorem tileAt_eq (j : Fin 4) (k : Fin 28) (h : Fin 2) (b : Fin 37) :
    tileAt (W m c (pt j k)) h b = fun p : Fin 128 × Fin 128 => wOf (arg1 m c) k p.1 h ⟨j.val * 37 + b.val, by omega⟩ p.2 := by
  funext p
  show W m c (pt j k) (ix3 p.1 h ⟨128 * b.val + p.2.val, _⟩) = _
  rw [W_apply]
  refine congrArg (arg1 m c) (congrArg₂ (fun u v => ix3 u h v) (Fin.ext ?_) (Fin.ext ?_))
  · show (j.val * 28 + k.val) % 28 * 128 + p.1.val = k.val * 128 + p.1.val
    omega
  · show (j.val * 28 + k.val) / 28 * 4736 + (128 * b.val + p.2.val) = (j.val * 37 + b.val) * 128 + p.2.val
    omega

section

variable (hx : ∀ i, max (arg0 m c i) (-(arg0 m c i) : EReal) ≤ big) (hw : ∀ i, max (arg1 m c i) (-(arg1 m c i) : EReal) ≤ big)

include hx in
theorem xs_eq (r : Fin 4) (k : Fin 28) : Pow2.kscale (top (xBlk (X0 m c) r k)) = Spec.xs (xOf (arg0 m c)) r k := by
  rw [xBlk_eq]
  exact Finite.kscale_top _ fun d => hx _

include hx in
theorem xc_eq (r : Fin 4) (n : Fin 3584) :
    xcAt (X0 m c) r n = Spec.xc (xOf (arg0 m c)) r ⟨n.val / 128, by omega⟩ ⟨n.val % 128, by omega⟩ := by
  unfold xcAt
  have ei : Pow2.kinv (top (xOf (arg0 m c) r ⟨n.val / 128, by omega⟩)) = Ideal.div 1 (Spec.xs (xOf (arg0 m c)) r ⟨n.val / 128, by omega⟩) :=
    Finite.kinv_top _ fun d => hx _
  rw [xBlk_eq, ei, X0_apply]
  have e : (n : Fin 3584) = ⟨n.val / 128 * 128 + n.val % 128, by omega⟩ := Fin.ext (by show n.val = n.val / 128 * 128 + n.val % 128; omega)
  exact congrArg (fun q : Fin 3584 => Spec.clip (arg0 m c (ix3 r 0 q) * _)) e

include hw in
theorem ws_eq (j : Fin 4) (k : Fin 28) (h : Fin 2) (b : Fin 37) :
    tsc (W m c (pt j k)) h b = Spec.ws (wOf (arg1 m c)) k h ⟨j.val * 37 + b.val, by omega⟩ := by
  unfold tsc
  rw [tileAt_eq]
  exact Finite.kscale_top _ fun d => hw _

include hw in
theorem wc_eq (j : Fin 4) (k : Fin 28) (h : Fin 2) (d : Fin 128) (n : Fin 4736) :
    wcAt (W m c (pt j k)) h d n = Spec.wc (wOf (arg1 m c)) k d h ⟨j.val * 37 + n.val / 128, by omega⟩ ⟨n.val % 128, by omega⟩ := by
  unfold wcAt
  have ei : Pow2.kinv (top fun p : Fin 128 × Fin 128 => wOf (arg1 m c) k p.1 h ⟨j.val * 37 + n.val / 128, by omega⟩ p.2)
      = Ideal.div 1 (Spec.ws (wOf (arg1 m c)) k h ⟨j.val * 37 + n.val / 128, by omega⟩) :=
    Finite.kinv_top _ fun d => hw _
  rw [tileAt_eq, ei]
  have e := congrFun (tileAt_eq m c j k h ⟨n.val / 128, by omega⟩) (d, ⟨n.val % 128, by omega⟩)
  have e' : (n : Fin 4736) = ⟨128 * (n.val / 128) + n.val % 128, by omega⟩ := Fin.ext (by show n.val = 128 * (n.val / 128) + n.val % 128; omega)
  refine Eq.trans (congrArg (fun q : Fin 4736 => Spec.clip (W m c (pt j k) (ix3 d h q) * _)) e') ?_
  exact congrArg (fun z : EReal => Spec.clip (z * _)) e

include hx in
theorem xw_eq (j : Fin 4) (k : Fin 28) (r : Fin 4) (d : Fin 128) :
    xwT m c (pt j k) ⟨r.val, by omega⟩ d = Spec.xc (xOf (arg0 m c)) r k d * Spec.xs (xOf (arg0 m c)) r k := by
  have ek : (⟨(grid0.coords (pt j k) 1).val, i1_lt _⟩ : Fin 28) = k := Fin.ext (by
    show (grid0.coords (pt j k) 1).val = k.val
    rw [coord1]; show (j.val * 28 + k.val) % 28 = k.val; omega)
  unfold xwT xwAt
  rw [ek, dif_pos (show r.val < 4 from r.isLt), xs_eq m c hx, xc_eq m c hx]
  refine congrArg (· * _) (congrArg₂ (Spec.xc (xOf (arg0 m c)) r) (Fin.ext ?_) (Fin.ext ?_))
  · show (128 * k.val + d.val) / 128 = k.val
    omega
  · show (128 * k.val + d.val) % 128 = d.val
    omega

include hw in
theorem fin_w (k : Fin 28) (d : Fin 128) (h : Fin 2) (q : Fin 148) (l : Fin 128) :
    max (wOf (arg1 m c) k d h q l) (-wOf (arg1 m c) k d h q l) ≤ big := by
  unfold wOf
  exact hw _

/-- The scale of a block of finite weights is a positive number. -/
theorem ws_pos (w : Fin 28 → Fin 128 → Fin 2 → Fin 148 → Fin 128 → EReal) (hw : ∀ k d h q l, max (w k d h q l) (-w k d h q l) ≤ big)
    (k : Fin 28) (h : Fin 2) (q : Fin 148) : ∃ s : ℝ, 0 < s ∧ Spec.ws w k h q = (s : EReal) :=
  Finite.blockScale_pos (fun p : Fin 128 × Fin 128 => w k p.1 h q p.2) fun p => hw k p.1 h q p.2

/-- A block's product times a positive number, entry by entry. -/
theorem share_pos (u v : Fin 128 → EReal) {S : EReal} (hS : ∃ s : ℝ, 0 < s ∧ S = (s : EReal)) :
    (∑ d, u d * v d) * S = ∑ d, u d * (v d * S) := by
  obtain ⟨s, hs, rfl⟩ := hS
  rw [sum_mul_of_pos _ _ hs]
  exact Finset.sum_congr rfl fun d _ => mul_assoc _ _ _

include hx hw in
/-- One contraction block's share of an entry of the product. -/
theorem share_eq (j : Fin 4) (h : Fin 2) (r : Fin 4) (n : Fin 4736) (k : Fin 28) :
    (∑ d : Fin 128, xwT m c (pt j k) ⟨r.val, by omega⟩ d * wcAt (W m c (pt j k)) h d n) * tsc (W m c (pt j k)) h ⟨n.val / 128, by omega⟩
      = ∑ d : Fin 128, Spec.xc (xOf (arg0 m c)) r k d * Spec.xs (xOf (arg0 m c)) r k
          * (Spec.wc (wOf (arg1 m c)) k d h ⟨j.val * 37 + n.val / 128, by omega⟩ ⟨n.val % 128, by omega⟩
            * Spec.ws (wOf (arg1 m c)) k h ⟨j.val * 37 + n.val / 128, by omega⟩) := by
  have e1 := ws_eq m c hw j k h ⟨n.val / 128, by omega⟩
  have e2 := share_pos (fun d => xwT m c (pt j k) ⟨r.val, by omega⟩ d) (fun d => wcAt (W m c (pt j k)) h d n)
    (ws_pos (wOf (arg1 m c)) (fin_w m c hw) k h ⟨j.val * 37 + n.val / 128, by omega⟩)
  refine (congrArg (fun z : EReal => (∑ d : Fin 128, xwT m c (pt j k) ⟨r.val, by omega⟩ d * wcAt (W m c (pt j k)) h d n) * z) e1).trans (e2.trans ?_)
  refine Finset.sum_congr rfl fun d _ => ?_
  have e3 := xw_eq m c hx j k r d
  have e4 := wc_eq m c hw j k h d n
  exact congrArg₂ (fun u v : EReal => u * (v * Spec.ws (wOf (arg1 m c)) k h ⟨j.val * 37 + n.val / 128, by omega⟩)) e3 e4

include hx hw in
theorem acc_eq (j : Fin 4) (h : Fin 2) (r : Fin 4) (n : Fin 4736) :
    accN m c (pt j 27).val (pt j 27).isLt (ix3 h ⟨r.val, by omega⟩ n)
      = Spec.dot (xOf (arg0 m c)) (wOf (arg1 m c)) r h ⟨j.val * 37 + n.val / 128, by omega⟩ ⟨n.val % 128, by omega⟩ := by
  rw [accN_last]
  exact Finset.sum_congr rfl fun k _ => share_eq m c hx hw j h r n k

/-! ## The five arrays -/

include hx hw in
theorem y_array : yArr m c = Cert.ReferenceIdeal.Value.G2 (F := Ideal) (arg0 m c) (arg1 m c) := by
  have key : ∀ (r : Fin 4) (n : Fin 18944), yEntry m c r n = Cert.ReferenceIdeal.Value.G2 (F := Ideal) (arg0 m c) (arg1 m c) (ix2 r n) := fun r n => by
    have e : (n : Fin 18944) = ⟨n.val / 128 * 128 + n.val % 128, by omega⟩ := Fin.ext (by show n.val = n.val / 128 * 128 + n.val % 128; omega)
    refine Eq.trans ?_ ((Cert.ReferenceIdeal.Hand.G2_apply (arg0 m c) (arg1 m c) r ⟨n.val / 128, by omega⟩ ⟨n.val % 128, by omega⟩).symm.trans
      (congrArg (fun q : Fin 18944 => Cert.ReferenceIdeal.Value.G2 (F := Ideal) (arg0 m c) (arg1 m c) (ix2 r q)) e.symm))
    have ea : ∀ h : Fin 2, accN m c (pt ⟨n.val / 4736, by omega⟩ 27).val (pt ⟨n.val / 4736, by omega⟩ 27).isLt (ix3 h ⟨r.val, by omega⟩ ⟨n.val % 4736, by omega⟩)
        = Spec.dot (xOf (arg0 m c)) (wOf (arg1 m c)) r h ⟨n.val / 128, by omega⟩ ⟨n.val % 128, by omega⟩ := fun h => by
      rw [acc_eq m c hx hw]
      refine congrArg₂ (Spec.dot (xOf (arg0 m c)) (wOf (arg1 m c)) r h) (Fin.ext ?_) (Fin.ext ?_)
      · show n.val / 4736 * 37 + n.val % 4736 / 128 = n.val / 128
        omega
      · show n.val % 4736 % 128 = n.val % 128
        omega
    unfold Spec.y
    rw [← ea 0, ← ea 1]
    rfl
  funext (i : S4x18944.Idx)
  rw [eq_ix2 i]
  exact key _ _

include hx in
theorem xc_array : xcF (X0 m c) = Cert.ReferenceIdeal.Value.G3 (F := Ideal) (arg0 m c) (arg1 m c) := by
  have key : ∀ (r : Fin 4) (n : Fin 3584), xcAt (X0 m c) r n = Cert.ReferenceIdeal.Value.G3 (F := Ideal) (arg0 m c) (arg1 m c) (ix2 r n) := fun r n => by
    have e : (n : Fin 3584) = ⟨n.val / 128 * 128 + n.val % 128, by omega⟩ := Fin.ext (by show n.val = n.val / 128 * 128 + n.val % 128; omega)
    rw [xc_eq m c hx]
    exact (Cert.ReferenceIdeal.Hand.G3_apply (arg0 m c) (arg1 m c) r ⟨n.val / 128, by omega⟩ ⟨n.val % 128, by omega⟩).symm.trans
      (congrArg (fun q : Fin 3584 => Cert.ReferenceIdeal.Value.G3 (F := Ideal) (arg0 m c) (arg1 m c) (ix2 r q)) e.symm)
  funext (i : S4x3584.Idx)
  rw [eq_ix2 i]
  exact key _ _

include hx in
theorem xs_array : xsF (X0 m c) = Cert.ReferenceIdeal.Value.G4 (F := Ideal) (arg0 m c) (arg1 m c) := by
  have key : ∀ (r : Fin 4) (u : Fin 1) (k : Fin 28), Pow2.kscale (top (xBlk (X0 m c) r k)) = Cert.ReferenceIdeal.Value.G4 (F := Ideal) (arg0 m c) (arg1 m c) (ix3 r u k) := fun r u k => by
    obtain rfl : u = 0 := Subsingleton.elim _ _
    rw [xs_eq m c hx]
    exact (Cert.ReferenceIdeal.Hand.G4_apply (arg0 m c) (arg1 m c) r k).symm
  funext (i : S4x1x28.Idx)
  rw [eq_ix3 i]
  exact key _ _ _

include hw in
theorem wc_array : wcArr m c = Cert.ReferenceIdeal.Value.G5 (F := Ideal) (arg0 m c) (arg1 m c) := by
  have key : ∀ (h : Fin 2) (i : Fin 3584) (n : Fin 18944), wcEntry m c h i n = Cert.ReferenceIdeal.Value.G5 (F := Ideal) (arg0 m c) (arg1 m c) (ix3 h i n) := fun h i n => by
    refine Eq.trans ?_ (Cert.ReferenceIdeal.Hand.G5_apply (arg0 m c) (arg1 m c) h i n).symm
    unfold wcEntry Cert.ReferenceIdeal.Hand.wcAt
    rw [wc_eq m c hw]
    refine congrArg₂ (Spec.wc (wOf (arg1 m c)) _ _ h) (Fin.ext ?_) (Fin.ext ?_)
    · show n.val / 4736 * 37 + n.val % 4736 / 128 = n.val / 128
      omega
    · show n.val % 4736 % 128 = n.val % 128
      omega
  funext (i : S2x3584x18944.Idx)
  rw [eq_ix3 i]
  exact key _ _ _

include hw in
theorem ws_array : wsN m c lastPt.val lastPt.isLt = Cert.ReferenceIdeal.Value.G6 (F := Ideal) (arg0 m c) (arg1 m c) := by
  have key : ∀ (k : Fin 28) (h : Fin 2) (q : Fin 148), wsN m c lastPt.val lastPt.isLt (ix3 k h q) = Cert.ReferenceIdeal.Value.G6 (F := Ideal) (arg0 m c) (arg1 m c) (ix3 k h q) := fun k h q => by
    rw [ws_last, ws_eq m c hw]
    refine Eq.trans ?_ (Cert.ReferenceIdeal.Hand.G6_apply (arg0 m c) (arg1 m c) k h q).symm
    exact congrArg (Spec.ws (wOf (arg1 m c)) k h) (Fin.ext (by show q.val / 37 * 37 + q.val % 37 = q.val; omega))
  funext (i : S28x2x148.Idx)
  rw [eq_ix3 i]
  exact key _ _ _

end

end Cert.KernelIdeal.Hand

end
-- ==== Proof.KernelCases.lean ====
/- What the four runs of the kernel's body share: which of its three branches it takes at each point of the
   grid, the buffers the pipeline hands it, and how the frame follows from a run of the pipeline. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 112 = 0 :=
  (fun t => by
    have ht : t.val < 112 := Nat.lt_of_lt_of_eq t.isLt N_0
    have e0 : (grid0.coords t 0).val = t.val / 28 % 4 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 112 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 28) — by arithmetic of the point. -/
theorem hcond0_1 : ∀ t : Fin cfg0.N, cond0_1 (grid0.coords t) ↔ t.val % 28 = 0 :=
  (fun t => by
    have ht : t.val < 112 := Nat.lt_of_lt_of_eq t.isLt N_0
    have e0 : (grid0.coords t 0).val = t.val / 28 % 4 := Pipeline.Grid.coords_val t 0 (by decide) rfl
    have e1 : (grid0.coords t 1).val = t.val / 1 % 28 := Pipeline.Grid.coords_val t 1 (by decide) rfl
    simp only [cond0_1, e0, e1]
    word_cmp
   : ∀ t : Fin grid0.N, cond0_1 (grid0.coords t) ↔ t.val % 28 = 0)

/-- The condition of the body's `scf.if` 2 (`k0_h3`), from the grid coordinates (the skeleton's scalar
    chain substituted). -/
abbrev cond0_2 (i : grid0.Coords) : Prop := k0_cond3 i = 1#1
/-- It holds at the points ≡ 27 (mod 28) — by arithmetic of the point. -/
theorem hcond0_2 : ∀ t : Fin cfg0.N, cond0_2 (grid0.coords t) ↔ t.val % 28 = 27 :=
  (fun t => by
    have ht : t.val < 112 := Nat.lt_of_lt_of_eq t.isLt N_0
    have e0 : (grid0.coords t 0).val = t.val / 28 % 4 := Pipeline.Grid.coords_val t 0 (by decide) rfl
    have e1 : (grid0.coords t 1).val = t.val / 1 % 28 := Pipeline.Grid.coords_val t 1 (by decide) rfl
    simp only [cond0_2, k0_cond3, e0, e1]
    word_cmp
   : ∀ t : Fin grid0.N, cond0_2 (grid0.coords t) ↔ t.val % 28 = 27)

/-! ## Where the windows are idle (the table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2x4736 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4736 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x3584 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x1x28 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128x4736 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S28x2x148 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S28x16x128 .bf16 := Memref.whole cc0_scratch0
abbrev scM0_1 : Memref sig .tc .vmem S2x8x4736 .f32 := Memref.whole cc0_scratch1
/-- The scratch `arg9` the kernel carries between points, as a view: what it holds is stated through it. -/
abbrev VS0_0 : View sig .tc .vmem S28x16x128 .bf16 := scM0_0.view
/-- The scratch `arg10` the kernel carries between points, as a view: what it holds is stated through it. -/
abbrev VS0_1 : View sig .tc .vmem S2x8x4736 .f32 := scM0_1.view

/-- The region's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KernelRunA.lean ====
/- The kernel's body run at the first point of the grid: both scratch buffers are started afresh. -/
module

public import proofs.«01_k».proof.Proof.KernelCases

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11312000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the program's functions are their skeletons
    (`Gen.*_eq_skeleton`), which `sl_exec` runs (Lib/Exec.lean) — each `scf.if` decided by the case's hypotheses `hc·`; the pieces are
    the witness that run finds (assigned when `iexact` hands the buffer to the continuation). Here also the unnamed outputs' (2, 3, 4, 5, 6) at anything, handed back at some contents nothing names. -/
noncomputable def bodyRun0_A (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : cond0_0 i) (hc1 : cond0_1 i) (hc2 : ¬cond0_2 i)
    (x0 : Vec F S4x3584 .bf16) (x1 : Vec F S128x2x4736 .bf16) :
    Σ' (LS0 : List (View.Piece (Elt F) S28x16x128 .bf16)), { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨?_, ?_, fun E K => ?run⟩
  case run =>
    simp only [cc0_requant_swiglu_eq_skeleton]; unfold cc0_requant_swiglu_skel
    simp only [k0_part367_eq_skeleton, k0_part54_eq_skeleton, k0_part53_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part368_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part369_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part370_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part371_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]; · iexists _; iexact HS0
    iexists _; iexact HS1

end Cert.Kernel.Hand

end
-- ==== Proof.KernelRunB.lean ====
/- The kernel's body run at a point inside a column block: the accumulator is added to. -/
module

public import proofs.«01_k».proof.Proof.KernelRunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10060000 in
/-- What the body's stores leave in each output's staging memref, as pieces (last first) IN CASE B (`scf.if` 0 not taken, `scf.if` 1 not taken, `scf.if` 2 not taken: points 1, 2, … 110: 104 of 112), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the program's functions are their skeletons
    (`Gen.*_eq_skeleton`), which `sl_exec` runs (Lib/Exec.lean) — each `scf.if` decided by the case's hypotheses `hc·`; the pieces are
    the witness that run finds (assigned when `iexact` hands the buffer to the continuation). Here also the unnamed outputs' (2, 3, 4, 5, 6) at anything, handed back at some contents nothing names. -/
noncomputable def bodyRun0_B (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : ¬cond0_2 i)
    (x0 : Vec F S4x3584 .bf16) (x1 : Vec F S128x2x4736 .bf16) (xs0 : Vec F S28x16x128 .bf16) (xs1 : Vec F S2x8x4736 .f32) :
    Σ' (LS0 : List (View.Piece (Elt F) S28x16x128 .bf16)), { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨[], ?_, fun E K => ?run⟩
  case run =>
    simp only [cc0_requant_swiglu_eq_skeleton]; unfold cc0_requant_swiglu_skel
    simp only [k0_part367_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part368_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part369_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part370_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part371_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg9.read_unread _
      iexact HS0
    iexists _; iexact HS1

end Cert.Kernel.Hand

end
-- ==== Proof.KernelRunC.lean ====
/- The kernel's body run at the last point of a column block: the accumulator is added to and the outputs are stored. -/
module

public import proofs.«01_k».proof.Proof.KernelRunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10076000 in
/-- What the body's stores leave in each output's staging memref, as pieces (last first) IN CASE C (`scf.if` 0 not taken, `scf.if` 1 not taken, `scf.if` 2 taken: points 27, 55, 83, 111), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the program's functions are their skeletons
    (`Gen.*_eq_skeleton`), which `sl_exec` runs (Lib/Exec.lean) — each `scf.if` decided by the case's hypotheses `hc·`; the pieces are
    the witness that run finds (assigned when `iexact` hands the buffer to the continuation). Here also the unnamed outputs' (2, 3, 4, 5, 6) at anything, handed back at some contents nothing names. -/
noncomputable def bodyRun0_C (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : cond0_2 i)
    (x0 : Vec F S4x3584 .bf16) (x1 : Vec F S128x2x4736 .bf16) (xs0 : Vec F S28x16x128 .bf16) (xs1 : Vec F S2x8x4736 .f32) :
    Σ' (LS0 : List (View.Piece (Elt F) S28x16x128 .bf16)), { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨[], ?_, fun E K => ?run⟩
  case run =>
    simp only [cc0_requant_swiglu_eq_skeleton]; unfold cc0_requant_swiglu_skel
    simp only [k0_part367_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part368_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part369_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part370_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part371_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg9.read_unread _
      iexact HS0
    iexists _; iexact HS1

end Cert.Kernel.Hand

end
-- ==== Proof.KernelRunD.lean ====
/- The kernel's body run at the first point of a later column block: the accumulator is started afresh. -/
module

public import proofs.«01_k».proof.Proof.KernelRunC

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10072000 in
/-- What the body's stores leave in each output's staging memref, as pieces (last first) IN CASE D (`scf.if` 0 not taken, `scf.if` 1 taken, `scf.if` 2 not taken: points 28, 56, 84), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the program's functions are their skeletons
    (`Gen.*_eq_skeleton`), which `sl_exec` runs (Lib/Exec.lean) — each `scf.if` decided by the case's hypotheses `hc·`; the pieces are
    the witness that run finds (assigned when `iexact` hands the buffer to the continuation). Here also the unnamed outputs' (2, 3, 4, 5, 6) at anything, handed back at some contents nothing names. -/
noncomputable def bodyRun0_D (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : cond0_1 i) (hc2 : ¬cond0_2 i)
    (x0 : Vec F S4x3584 .bf16) (x1 : Vec F S128x2x4736 .bf16) (xs0 : Vec F S28x16x128 .bf16) :
    Σ' (LS0 : List (View.Piece (Elt F) S28x16x128 .bf16)), { LS1 : List (View.Piece (Elt F) S2x8x4736 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_requant_swiglu i arg2 harg2 arg3 harg3 arg4 harg4 arg5 harg5 arg6 harg6 arg7 harg7 arg8 harg8 arg9 harg9 arg10 harg10) K } := by
  refine ⟨[], ?_, fun E K => ?run⟩
  case run =>
    simp only [cc0_requant_swiglu_eq_skeleton]; unfold cc0_requant_swiglu_skel
    simp only [k0_part367_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part368_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part369_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part370_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part371_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%fs0, %hfs0, HS0⟩, ⟨%ds1, %fs1, -, HS1⟩, Hk⟩
    obtain rfl := harg2.eq_unread hf0; obtain rfl := harg3.eq_unread hf1; obtain rfl := harg9.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg9.read_unread _
      iexact HS0
    iexists _; iexact HS1

end Cert.Kernel.Hand

end
-- ==== Proof.KernelFrame.lean ====
/- The kernel's frame: from any memory it runs to the end, leaves its arguments as they were and every
   semaphore counter at zero. The kernel's body is run case by case; what the outputs hold is not named, only
   what the two scratch buffers hold from one point of the grid to the next. -/
module

public import proofs.«01_k».proof.Proof.KernelRunD
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 28 pieces of `S1x16x128` tiling it (Lib/Ring.lean `Piece.tiledL`). -/
theorem scover0_A_0 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : cond0_0 i) (hc1 : cond0_1 i) (hc2 : ¬cond0_2 i)
    (x0 : Vec F S4x3584 .bf16) (x1 : Vec F S128x2x4736 .bf16) (y : S28x16x128.Idx) :
    ∃ pc ∈ (bodyRun0_A c i arg2 harg2 arg3 harg3 arg4 harg4 arg5 harg5 arg6 harg6 arg7 harg7 arg8 harg8 arg9 harg9 arg10 harg10 hc0 hc1 hc2 x0 x1).1, y ∈ pc.1.set :=
  View.cover_of_tiledL (bodyRun0_A c i arg2 harg2 arg3 harg3 arg4 harg4 arg5 harg5 arg6 harg6 arg7 harg7 arg8 harg8 arg9 harg9 arg10 harg10 hc0 hc1 hc2 x0 x1).1 S1x16x128.size (by sl_kernel_rfl) y

/-- What case A leaves in scratch `arg9`: its pieces read back over junk. -/
def sout0_A_0 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : cond0_0 i) (hc1 : cond0_1 i) (hc2 : ¬cond0_2 i)
    (x0 : Vec F S4x3584 .bf16) (x1 : Vec F S128x2x4736 .bf16) : Vec F S28x16x128 .bf16 :=
  VS0_0.read (Elt F) (VS0_0.writes (Elt F) VS0_0.junk (bodyRun0_A c i arg2 harg2 arg3 harg3 arg4 harg4 arg5 harg5 arg6 harg6 arg7 harg7 arg8 harg8 arg9 harg9 arg10 harg10 hc0 hc1 hc2 x0 x1).1)

/-- Case A's pieces for scratch `arg10`, which the kernel carries between points, cover it: one of them a store of the WHOLE buffer (Lib/Ring.lean `sl_whole_mem`). -/
theorem scover0_A_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : cond0_0 i) (hc1 : cond0_1 i) (hc2 : ¬cond0_2 i)
    (x0 : Vec F S4x3584 .bf16) (x1 : Vec F S128x2x4736 .bf16) (y : S2x8x4736.Idx) :
    ∃ pc ∈ (bodyRun0_A c i arg2 harg2 arg3 harg3 arg4 harg4 arg5 harg5 arg6 harg6 arg7 harg7 arg8 harg8 arg9 harg9 arg10 harg10 hc0 hc1 hc2 x0 x1).2.1, y ∈ pc.1.set :=
  View.cover_of_wholeMem (bodyRun0_A c i arg2 harg2 arg3 harg3 arg4 harg4 arg5 harg5 arg6 harg6 arg7 harg7 arg8 harg8 arg9 harg9 arg10 harg10 hc0 hc1 hc2 x0 x1).2.1 (by sl_whole_mem) y

/-- What case A leaves in scratch `arg10`: its pieces read back over junk. -/
def sout0_A_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : cond0_0 i) (hc1 : cond0_1 i) (hc2 : ¬cond0_2 i)
    (x0 : Vec F S4x3584 .bf16) (x1 : Vec F S128x2x4736 .bf16) : Vec F S2x8x4736 .f32 :=
  VS0_1.read (Elt F) (VS0_1.writes (Elt F) VS0_1.junk (bodyRun0_A c i arg2 harg2 arg3 harg3 arg4 harg4 arg5 harg5 arg6 harg6 arg7 harg7 arg8 harg8 arg9 harg9 arg10 harg10 hc0 hc1 hc2 x0 x1).2.1)

/-- Case B stores nothing into scratch `arg9`: it holds what the point before left. -/
def sout0_B_0 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : ¬cond0_2 i)
    (x0 : Vec F S4x3584 .bf16) (x1 : Vec F S128x2x4736 .bf16) (xs0 : Vec F S28x16x128 .bf16) (xs1 : Vec F S2x8x4736 .f32) : Vec F S28x16x128 .bf16 := xs0

/-- Case B's pieces for scratch `arg10`, which the kernel carries between points, cover it: 38 pieces (stores and landed copies) of several sizes (`S1x8x128`, `S1x8x256`) tiling it when cut into blocks of `![1, 8, 128]` (Lib/Ring.lean `Piece.tiledBy`). -/
theorem scover0_B_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : ¬cond0_2 i)
    (x0 : Vec F S4x3584 .bf16) (x1 : Vec F S128x2x4736 .bf16) (xs0 : Vec F S28x16x128 .bf16) (xs1 : Vec F S2x8x4736 .f32) (y : S2x8x4736.Idx) :
    ∃ pc ∈ (bodyRun0_B c i arg2 harg2 arg3 harg3 arg4 harg4 arg5 harg5 arg6 harg6 arg7 harg7 arg8 harg8 arg9 harg9 arg10 harg10 hc0 hc1 hc2 x0 x1 xs0 xs1).2.1, y ∈ pc.1.set :=
  View.cover_of_tiledBy (bodyRun0_B c i arg2 harg2 arg3 harg3 arg4 harg4 arg5 harg5 arg6 harg6 arg7 harg7 arg8 harg8 arg9 harg9 arg10 harg10 hc0 hc1 hc2 x0 x1 xs0 xs1).2.1 ![1, 8, 128] (by sl_kernel_rfl) y

/-- What case B leaves in scratch `arg10`: its pieces read back over junk. -/
def sout0_B_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : ¬cond0_2 i)
    (x0 : Vec F S4x3584 .bf16) (x1 : Vec F S128x2x4736 .bf16) (xs0 : Vec F S28x16x128 .bf16) (xs1 : Vec F S2x8x4736 .f32) : Vec F S2x8x4736 .f32 :=
  VS0_1.read (Elt F) (VS0_1.writes (Elt F) VS0_1.junk (bodyRun0_B c i arg2 harg2 arg3 harg3 arg4 harg4 arg5 harg5 arg6 harg6 arg7 harg7 arg8 harg8 arg9 harg9 arg10 harg10 hc0 hc1 hc2 x0 x1 xs0 xs1).2.1)

/-- Case C stores nothing into scratch `arg9`: it holds what the point before left. -/
def sout0_C_0 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : cond0_2 i)
    (x0 : Vec F S4x3584 .bf16) (x1 : Vec F S128x2x4736 .bf16) (xs0 : Vec F S28x16x128 .bf16) (xs1 : Vec F S2x8x4736 .f32) : Vec F S28x16x128 .bf16 := xs0

/-- Case C's pieces for scratch `arg10`, which the kernel carries between points, cover it: 38 pieces (stores and landed copies) of several sizes (`S1x8x128`, `S1x8x256`) tiling it when cut into blocks of `![1, 8, 128]` (Lib/Ring.lean `Piece.tiledBy`). -/
theorem scover0_C_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : cond0_2 i)
    (x0 : Vec F S4x3584 .bf16) (x1 : Vec F S128x2x4736 .bf16) (xs0 : Vec F S28x16x128 .bf16) (xs1 : Vec F S2x8x4736 .f32) (y : S2x8x4736.Idx) :
    ∃ pc ∈ (bodyRun0_C c i arg2 harg2 arg3 harg3 arg4 harg4 arg5 harg5 arg6 harg6 arg7 harg7 arg8 harg8 arg9 harg9 arg10 harg10 hc0 hc1 hc2 x0 x1 xs0 xs1).2.1, y ∈ pc.1.set :=
  View.cover_of_tiledBy (bodyRun0_C c i arg2 harg2 arg3 harg3 arg4 harg4 arg5 harg5 arg6 harg6 arg7 harg7 arg8 harg8 arg9 harg9 arg10 harg10 hc0 hc1 hc2 x0 x1 xs0 xs1).2.1 ![1, 8, 128] (by sl_kernel_rfl) y

/-- What case C leaves in scratch `arg10`: its pieces read back over junk. -/
def sout0_C_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : ¬cond0_1 i) (hc2 : cond0_2 i)
    (x0 : Vec F S4x3584 .bf16) (x1 : Vec F S128x2x4736 .bf16) (xs0 : Vec F S28x16x128 .bf16) (xs1 : Vec F S2x8x4736 .f32) : Vec F S2x8x4736 .f32 :=
  VS0_1.read (Elt F) (VS0_1.writes (Elt F) VS0_1.junk (bodyRun0_C c i arg2 harg2 arg3 harg3 arg4 harg4 arg5 harg5 arg6 harg6 arg7 harg7 arg8 harg8 arg9 harg9 arg10 harg10 hc0 hc1 hc2 x0 x1 xs0 xs1).2.1)

/-- Case D stores nothing into scratch `arg9`: it holds what the point before left. -/
def sout0_D_0 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : cond0_1 i) (hc2 : ¬cond0_2 i)
    (x0 : Vec F S4x3584 .bf16) (x1 : Vec F S128x2x4736 .bf16) (xs0 : Vec F S28x16x128 .bf16) : Vec F S28x16x128 .bf16 := xs0

/-- Case D's pieces for scratch `arg10`, which the kernel carries between points, cover it: one of them a store of the WHOLE buffer (Lib/Ring.lean `sl_whole_mem`). -/
theorem scover0_D_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : cond0_1 i) (hc2 : ¬cond0_2 i)
    (x0 : Vec F S4x3584 .bf16) (x1 : Vec F S128x2x4736 .bf16) (xs0 : Vec F S28x16x128 .bf16) (y : S2x8x4736.Idx) :
    ∃ pc ∈ (bodyRun0_D c i arg2 harg2 arg3 harg3 arg4 harg4 arg5 harg5 arg6 harg6 arg7 harg7 arg8 harg8 arg9 harg9 arg10 harg10 hc0 hc1 hc2 x0 x1 xs0).2.1, y ∈ pc.1.set :=
  View.cover_of_wholeMem (bodyRun0_D c i arg2 harg2 arg3 harg3 arg4 harg4 arg5 harg5 arg6 harg6 arg7 harg7 arg8 harg8 arg9 harg9 arg10 harg10 hc0 hc1 hc2 x0 x1 xs0).2.1 (by sl_whole_mem) y

/-- What case D leaves in scratch `arg10`: its pieces read back over junk. -/
def sout0_D_1 (c : Dev nD) (i : grid0.Coords) (arg2 : Memref sig .tc .vmem S4x3584 .bf16) (harg2 : arg2.IsWhole) (arg3 : Memref sig .tc .vmem S128x2x4736 .bf16) (harg3 : arg3.IsWhole) (arg4 : Memref sig .tc .vmem S4x4736 .bf16) (harg4 : arg4.IsWhole) (arg5 : Memref sig .tc .vmem S4x3584 .fp8e4m3) (harg5 : arg5.IsWhole) (arg6 : Memref sig .tc .vmem S4x1x28 .f32) (harg6 : arg6.IsWhole) (arg7 : Memref sig .tc .vmem S2x128x4736 .fp8e4m3) (harg7 : arg7.IsWhole) (arg8 : Memref sig .tc .vmem S28x2x148 .f32) (harg8 : arg8.IsWhole) (arg9 : Memref sig .tc .vmem S28x16x128 .bf16) (harg9 : arg9.IsWhole) (arg10 : Memref sig .tc .vmem S2x8x4736 .f32) (harg10 : arg10.IsWhole) (hc0 : ¬cond0_0 i) (hc1 : cond0_1 i) (hc2 : ¬cond0_2 i)
    (x0 : Vec F S4x3584 .bf16) (x1 : Vec F S128x2x4736 .bf16) (xs0 : Vec F S28x16x128 .bf16) : Vec F S2x8x4736 .f32 :=
  VS0_1.read (Elt F) (VS0_1.writes (Elt F) VS0_1.junk (bodyRun0_D c i arg2 harg2 arg3 harg3 arg4 harg4 arg5 harg5 arg6 harg6 arg7 harg7 arg8 harg8 arg9 harg9 arg10 harg10 hc0 hc1 hc2 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S28x16x128 .bf16 × Vec F S2x8x4736 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩))
  | n + 1, hn =>
    if h0 : (n + 1) % 112 = 0 then
      if h1 : (n + 1) % 28 = 0 then
        if h2 : (n + 1) % 28 = 27 then
          False.elim (by have hN : n + 1 < 112 := lt_of_lt_of_eq hn (show cfg0.N = 112 from N_0); omega)
        else
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩))
      else
        False.elim (by have hN : n + 1 < 112 := lt_of_lt_of_eq hn (show cfg0.N = 112 from N_0); omega)
    else
      if h1 : (n + 1) % 28 = 0 then
        if h2 : (n + 1) % 28 = 27 then
          False.elim (by have hN : n + 1 < 112 := lt_of_lt_of_eq hn (show cfg0.N = 112 from N_0); omega)
        else
          (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).1, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).1)
      else
        if h2 : (n + 1) % 28 = 27 then
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (outsAt0 c n (Nat.lt_of_succ_lt hn)).1 (outsAt0 c n (Nat.lt_of_succ_lt hn)).2)
        else
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 112 = 0) (h1 : t.val % 28 = 0) (h2 : ¬t.val % 28 = 27) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) ((hcond0_1 t).mpr h1) (fun h => h2 ((hcond0_2 t).mp h)) (iblk m c 0 t) (iblk m c 1 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 112 = 0) (h1 : ¬t.val % 28 = 0) (h2 : ¬t.val % 28 = 27) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 112 = 0) (h1 : ¬t.val % 28 = 0) (h2 : t.val % 28 = 27) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : ¬t.val % 112 = 0) (h1 : t.val % 28 = 0) (h2 : ¬t.val % 28 = 27) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).1, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2)) ∗ (∃ r, prngReg c r)) := by
  cases n with
  | zero => exact absurd rfl hz
  | succ n => rfl

/-! ## The pipeline's proof data -/

/-- The output windows this proof does not name (2, 3, 4, 5, 6): nothing reads what the kernel leaves in them, so nothing
    of it is named (Lib/Pipeline/Dat.lean `Dat.toRForget`). -/
def forgets0 : Fin 7 → Bool := fun w => w.val == 2 || w.val == 3 || w.val == 4 || w.val == 5 || w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 112 = 0
  · by_cases h1 : t.val % 28 = 0
    · by_cases h2 : t.val % 28 = 27
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · rw [PhiS_castSucc m c t, PhiS_zero m c _ _ hz, PhiA0_eq]
          rw [outsAt0_A m c t h0 h1 h2]
          unfold sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((bodyRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t)).2.2 Set.univ _)
          isplitl [H0]; · iexact H0
          isplitl [H1]; · iexact H1
          isplitl [H2]; · iexists _; iexact H2
          isplitl [H3]; · iexists _; iexact H3
          isplitl [H4]; · iexists _; iexact H4
          isplitl [H5]; · iexists _; iexact H5
          isplitl [H6]; · iexists _; iexact H6
          isplitl [HS0]; · iexact HS0
          isplitl [HS1]; · iexact HS1
          iintro ⟨H0, H1, H2, H3, H4, H5, H6, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
        · exfalso; have hN : t.val < 112 := lt_of_lt_of_eq t.isLt (show cfg0.N = 112 from N_0); omega
    · exfalso; omega
  · by_cases h1 : t.val % 28 = 0
    · by_cases h2 : t.val % 28 = 27
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · exfalso; have hN : t.val < 112 := lt_of_lt_of_eq t.isLt (show cfg0.N = 112 from N_0); omega
        · rw [PhiS_castSucc m c t, PhiS_pos m c _ _ hz]
          rw [outsAt0_D m c t h0 h1 h2]
          unfold sout0_D_0 sout0_D_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((bodyRun0_D c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) _).2.2 Set.univ _)
          isplitl [H0]; · iexact H0
          isplitl [H1]; · iexact H1
          isplitl [H2]; · iexists _; iexact H2
          isplitl [H3]; · iexists _; iexact H3
          isplitl [H4]; · iexists _; iexact H4
          isplitl [H5]; · iexists _; iexact H5
          isplitl [H6]; · iexists _; iexact H6
          isplitl [HS0]; · iexact HS0
          isplitl [HS1]; · iexists _; iexact HS1
          iintro ⟨H0, H1, H2, H3, H4, H5, H6, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_D_1 c _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
    · by_cases h2 : t.val % 28 = 27
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · exfalso; have hN : t.val < 112 := lt_of_lt_of_eq t.isLt (show cfg0.N = 112 from N_0); omega
        · rw [PhiS_castSucc m c t, PhiS_pos m c _ _ hz]
          rw [outsAt0_C m c t h0 h1 h2]
          unfold sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((bodyRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) _ _).2.2 Set.univ _)
          isplitl [H0]; · iexact H0
          isplitl [H1]; · iexact H1
          isplitl [H2]; · iexists _; iexact H2
          isplitl [H3]; · iexists _; iexact H3
          isplitl [H4]; · iexists _; iexact H4
          isplitl [H5]; · iexists _; iexact H5
          isplitl [H6]; · iexists _; iexact H6
          isplitl [HS0]; · iexact HS0
          isplitl [HS1]; · iexact HS1
          iintro ⟨H0, H1, H2, H3, H4, H5, H6, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_C_1 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        by_cases hz : t.val = 0
        · exfalso; have hN : t.val < 112 := lt_of_lt_of_eq t.isLt (show cfg0.N = 112 from N_0); omega
        · rw [PhiS_castSucc m c t, PhiS_pos m c _ _ hz]
          rw [outsAt0_B m c t h0 h1 h2]
          unfold sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
          iapply ((bodyRun0_B c (grid0.coords t) _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) _ _).2.2 Set.univ _)
          isplitl [H0]; · iexact H0
          isplitl [H1]; · iexact H1
          isplitl [H2]; · iexists _; iexact H2
          isplitl [H3]; · iexists _; iexact H3
          isplitl [H4]; · iexists _; iexact H4
          isplitl [H5]; · iexists _; iexact H5
          isplitl [H6]; · iexists _; iexact H6
          isplitl [HS0]; · iexact HS0
          isplitl [HS1]; · iexact HS1
          iintro ⟨H0, H1, H2, H3, H4, H5, H6, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    unnamed outputs (windows 2, 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- The frame: the argument arrays end unchanged and every semaphore counter ends at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Equal
public import proofs.«01_k».proof.Proof.KernelFrame
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel and the reference leave the same five arrays, when the arguments are finite. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf := fun c => Cert.Finite.of_pre _ _ (hpre c)
  refine ⟨fun c => Cert.KernelIdeal.Hand.yArr m c, fun c => Cert.KernelIdeal.Hand.xcF (Cert.KernelIdeal.Hand.X0 m c),
    fun c => Cert.KernelIdeal.Hand.xsF (Cert.KernelIdeal.Hand.X0 m c), fun c => Cert.KernelIdeal.Hand.wcArr m c,
    fun c => Cert.KernelIdeal.Hand.wsN m c Cert.KernelIdeal.Hand.lastPt.val Cert.KernelIdeal.Hand.lastPt.isLt,
    Cert.KernelIdeal.Hand.run m g, ?_⟩
  refine (θ_run _ _ _).mono (fun r h c => ?_) (Cert.ReferenceIdeal.Value.run m' g')
  obtain ⟨h0, h1, h2, h3, h4, h5, h6⟩ := h c
  obtain ⟨e0, e1⟩ := hargs c
  rw [e0, e1] at h0 h1 h2 h3 h4
  exact ⟨h0.trans (Cert.KernelIdeal.Hand.y_array m c (hf c).1 (hf c).2).symm, h1.trans (Cert.KernelIdeal.Hand.xc_array m c (hf c).1).symm,
    h2.trans (Cert.KernelIdeal.Hand.xs_array m c (hf c).1).symm, h3.trans (Cert.KernelIdeal.Hand.wc_array m c (hf c).2).symm,
    h4.trans (Cert.KernelIdeal.Hand.ws_array m c (hf c).2).symm, h5, h6⟩

/-- Every claim of the certificate. -/
theorem claim : Cert.Claim := ⟨Cert.Kernel.Gen.facts, Cert.KernelIdeal.Gen.facts, Cert.ReferenceIdeal.Gen.facts, Cert.Pre_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.bf16_pair.statement _ _,
  equal⟩

end Cert.Proof

end
